-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x256x2560 : Shape := ⟨3, ![4, 256, 2560]⟩
abbrev S2560 : Shape := ⟨1, ![2560]⟩
abbrev S6 : Shape := ⟨1, ![6]⟩
abbrev S5 : Shape := ⟨1, ![5]⟩
abbrev S6912x1280 : Shape := ⟨2, ![6912, 1280]⟩
abbrev S6912x5 : Shape := ⟨2, ![6912, 5]⟩
abbrev S_ : Shape := ⟨0, ![]⟩

class Facts : Prop where
  bcast_S_S2560 : S_.BroadcastsInDim S2560 (![] : Fin 0 → Fin S2560.rank)
  bcast_S_S6 : S_.BroadcastsInDim S6 (![] : Fin 0 → Fin S6.rank)
  reducesTo_S6_S_d0 : S6.ReducesTo [0] S_
  h_S_ : 0 < S_.numel

variable [Facts]

def fn {F : FTy → Type} [FloatOps F] (main_arg0 : FVec F S4x256x2560 .bf16) (main_arg1 : IVec S2560 32) (main_arg2 : IVec S6 32) (main_arg3 : FVec F S5 .f32) (main_arg4 : IVec S5 32) (main_arg5 : IVec S6912x1280 8) (main_arg6 : FVec F S6912x5 .f32) (main_arg7 : IVec S6912x5 8) : IVec S2560 1 :=
  let main_c : IVec S_ 32 := constantI S_ 32 0#32
  let main_v0 : IVec S2560 32 := broadcastInDim S2560 ![] bcast_S_S2560 main_c
  let main_v1 : IVec S2560 1 := cmpi .sge main_arg1 main_v0
  let main_c_0 : IVec S_ 32 := constantI S_ 32 2560#32
  let main_v2 : IVec S2560 32 := broadcastInDim S2560 ![] bcast_S_S2560 main_c_0
  let main_v3 : IVec S2560 1 := cmpi .slt main_arg1 main_v2
  let main_v4 : IVec S2560 1 := andi main_v1 main_v3
  let main_c_1 : IVec S_ 32 := constantI S_ 32 0#32
  let main_v5 : IVec S6 32 := broadcastInDim S6 ![] bcast_S_S6 main_c_1
  let main_v6 : IVec S6 1 := cmpi .sle main_arg2 main_v5
  let main_c_2 : IVec S_ 1 := constantI S_ 1 0#1
  let main_v7 : IVec S_ 1 := (fun x v => Host.reduce IntOp.ori x v reducesTo_S6_S_d0 h_S_) main_v6 main_c_2
  let main_v8 : IVec S2560 1 := broadcastInDim S2560 ![] bcast_S_S2560 main_v7
  let main_v9 : IVec S2560 1 := andi main_v4 main_v8
  let main_c_3 : IVec S_ 32 := constantI S_ 32 2560#32
  let main_v10 : IVec S6 32 := broadcastInDim S6 ![] bcast_S_S6 main_c_3
  let main_v11 : IVec S6 1 := cmpi .sge main_arg2 main_v10
  let main_c_4 : IVec S_ 1 := constantI S_ 1 0#1
  let main_v12 : IVec S_ 1 := (fun x v => Host.reduce IntOp.ori x v reducesTo_S6_S_d0 h_S_) main_v11 main_c_4
  let main_v13 : IVec S2560 1 := broadcastInDim S2560 ![] bcast_S_S2560 main_v12
  let main_v14 : IVec S2560 1 := andi main_v9 main_v13
  main_v14
-- ==== Kernel.lean ====
abbrev S4x256x2560 : Shape := ⟨3, ![4, 256, 2560]⟩
abbrev S2560 : Shape := ⟨1, ![2560]⟩
abbrev S6 : Shape := ⟨1, ![6]⟩
abbrev S5 : Shape := ⟨1, ![5]⟩
abbrev S6912x1280 : Shape := ⟨2, ![6912, 1280]⟩
abbrev S6912x5 : Shape := ⟨2, ![6912, 5]⟩
abbrev S20x128 : Shape := ⟨2, ![20, 128]⟩
abbrev S1024x2560 : Shape := ⟨2, ![1024, 2560]⟩
abbrev S1024x6912 : Shape := ⟨2, ![1024, 6912]⟩
abbrev S256x1280 : Shape := ⟨2, ![256, 1280]⟩
abbrev S256x5 : Shape := ⟨2, ![256, 5]⟩
abbrev S1024x256 : Shape := ⟨2, ![1024, 256]⟩
abbrev S20x8x128 : Shape := ⟨3, ![20, 8, 128]⟩
abbrev S8x128 : Shape := ⟨2, ![8, 128]⟩
abbrev S1x128 : Shape := ⟨2, ![1, 128]⟩
abbrev S8x128x1 : Shape := ⟨3, ![8, 128, 1]⟩
abbrev S1 : Shape := ⟨1, ![1]⟩
abbrev S1x8x128 : Shape := ⟨3, ![1, 8, 128]⟩
abbrev S16x128 : Shape := ⟨2, ![16, 128]⟩
abbrev S16x128x1 : Shape := ⟨3, ![16, 128, 1]⟩
abbrev S32x128 : Shape := ⟨2, ![32, 128]⟩
abbrev S32x5 : Shape := ⟨2, ![32, 5]⟩
abbrev S32x123 : Shape := ⟨2, ![32, 123]⟩
abbrev S256x2560 : Shape := ⟨2, ![256, 2560]⟩

abbrev nBuf : Space → Nat
  | .hbm => 12
  | .vmem => 14
  | .smem => 3
  | _ => 0

abbrev bufTy : (tb : Table) → Fin (tcTables nBuf tb) → BufTy
  | .hbm, ⟨0, _⟩ => ⟨S4x256x2560, .bf16⟩
  | .hbm, ⟨1, _⟩ => ⟨S2560, .i32⟩
  | .hbm, ⟨2, _⟩ => ⟨S6, .i32⟩
  | .hbm, ⟨3, _⟩ => ⟨S5, .f32⟩
  | .hbm, ⟨4, _⟩ => ⟨S5, .i32⟩
  | .hbm, ⟨5, _⟩ => ⟨S6912x1280, .i8⟩
  | .hbm, ⟨6, _⟩ => ⟨S6912x5, .f32⟩
  | .hbm, ⟨7, _⟩ => ⟨S6912x5, .i8⟩
  | .hbm, ⟨8, _⟩ => ⟨S20x128, .i32⟩
  | .hbm, ⟨9, _⟩ => ⟨S1024x2560, .bf16⟩
  | .hbm, ⟨10, _⟩ => ⟨S1024x6912, .bf16⟩
  | .hbm, ⟨11, _⟩ => ⟨S1024x2560, .i8⟩
  | .local _ .vmem, ⟨0, _⟩ => ⟨S20x128, .i32⟩
  | .local _ .vmem, ⟨1, _⟩ => ⟨S1024x2560, .bf16⟩
  | .local _ .vmem, ⟨2, _⟩ => ⟨S256x1280, .i8⟩
  | .local _ .vmem, ⟨3, _⟩ => ⟨S256x1280, .i8⟩
  | .local _ .vmem, ⟨4, _⟩ => ⟨S256x5, .f32⟩
  | .local _ .vmem, ⟨5, _⟩ => ⟨S256x5, .f32⟩
  | .local _ .vmem, ⟨6, _⟩ => ⟨S256x5, .i8⟩
  | .local _ .vmem, ⟨7, _⟩ => ⟨S256x5, .i8⟩
  | .local _ .vmem, ⟨8, _⟩ => ⟨S1024x256, .bf16⟩
  | .local _ .vmem, ⟨9, _⟩ => ⟨S1024x256, .bf16⟩
  | .local _ .vmem, ⟨10, _⟩ => ⟨S1024x2560, .i8⟩
  | .local _ .vmem, ⟨11, _⟩ => ⟨S1024x2560, .bf16⟩
  | .local _ .vmem, ⟨12, _⟩ => ⟨S1024x2560, .bf16⟩
  | .local _ .vmem, ⟨13, _⟩ => ⟨S20x8x128, .i32⟩
  | .local _ .smem, ⟨0, _⟩ => ⟨S6, .i32⟩
  | .local _ .smem, ⟨1, _⟩ => ⟨S5, .f32⟩
  | .local _ .smem, ⟨2, _⟩ => ⟨S5, .i32⟩
  | _, _ => ⟨S4x256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![27], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_49 : BitVec 32 := 0#32
  let c32_i32 : BitVec 32 := 32#32
  let v136 : BitVec 32 := Scalar.addi c0_i32_49 c32_i32
  let c1_i32_50 : BitVec 32 := 1#32
  ⟨c0_i32_49, v136, c1_i32_50⟩
def k0_mult1 (k0_t1 : Fin k0_t1_loop.trips) : BitVec 32 :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  v2471
def k0_off1 (k0_t1 : Fin k0_t1_loop.trips) (c0_i32_1078 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off2 (k0_t1 : Fin k0_t1_loop.trips) (c0_i32_1081 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off3 (k0_t1 : Fin k0_t1_loop.trips) (c0_i32_1083 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off4 (k0_t1 : Fin k0_t1_loop.trips) (c0_i32_1085 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off5 (k0_t1 : Fin k0_t1_loop.trips) (c0_i32_1087 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off6 (k0_t1 : Fin k0_t1_loop.trips) (c0_i32_1089 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off7 (k0_t1 : Fin k0_t1_loop.trips) (c0_i32_1090 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off8 (k0_t1 : Fin k0_t1_loop.trips) (c0_i32_1091 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off9 (k0_t1 : Fin k0_t1_loop.trips) (c0_i32_1093 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off10 (k0_t1 : Fin k0_t1_loop.trips) (c0_i32_1095 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off11 (k0_t1 : Fin k0_t1_loop.trips) (c0_i32_1096 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off12 (k0_t1 : Fin k0_t1_loop.trips) (c0_i32_1097 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off13 (k0_t1 : Fin k0_t1_loop.trips) (c0_i32_1098 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off14 (k0_t1 : Fin k0_t1_loop.trips) (c0_i32_1099 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off15 (k0_t1 : Fin k0_t1_loop.trips) (c0_i32_1100 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off16 (k0_t1 : Fin k0_t1_loop.trips) (c0_i32_1101 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off17 (k0_t1 : Fin k0_t1_loop.trips) (c0_i32_1102 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off18 (k0_t1 : Fin k0_t1_loop.trips) (c0_i32_1103 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off19 (k0_t1 : Fin k0_t1_loop.trips) (c0_i32_1104 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off20 (k0_t1 : Fin k0_t1_loop.trips) (c0_i32_1105 : BitVec 32) : Fin 2 → Nat :=
  let c0_i32_49 : BitVec 32 := 0#32
  let c1_i32_50 : BitVec 32 := 1#32
  let arg14 : BitVec 32 := Scf.iv c0_i32_49 c1_i32_50 k0_t1
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t2_loop : Scf.Loop 32 :=
  let c0_i32_100 : BitVec 32 := 0#32
  let c32_i32_101 : BitVec 32 := 32#32
  let v255 : BitVec 32 := Scalar.addi c0_i32_100 c32_i32_101
  let c1_i32_102 : BitVec 32 := 1#32
  ⟨c0_i32_100, v255, c1_i32_102⟩
def k0_mult2 (k0_t2 : Fin k0_t2_loop.trips) : BitVec 32 :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  v2471
def k0_off21 (k0_t2 : Fin k0_t2_loop.trips) (c0_i32_1078 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off22 (k0_t2 : Fin k0_t2_loop.trips) (c0_i32_1081 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off23 (k0_t2 : Fin k0_t2_loop.trips) (c0_i32_1083 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off24 (k0_t2 : Fin k0_t2_loop.trips) (c0_i32_1085 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off25 (k0_t2 : Fin k0_t2_loop.trips) (c0_i32_1087 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off26 (k0_t2 : Fin k0_t2_loop.trips) (c0_i32_1089 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off27 (k0_t2 : Fin k0_t2_loop.trips) (c0_i32_1090 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off28 (k0_t2 : Fin k0_t2_loop.trips) (c0_i32_1091 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off29 (k0_t2 : Fin k0_t2_loop.trips) (c0_i32_1093 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off30 (k0_t2 : Fin k0_t2_loop.trips) (c0_i32_1095 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off31 (k0_t2 : Fin k0_t2_loop.trips) (c0_i32_1096 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off32 (k0_t2 : Fin k0_t2_loop.trips) (c0_i32_1097 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off33 (k0_t2 : Fin k0_t2_loop.trips) (c0_i32_1098 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off34 (k0_t2 : Fin k0_t2_loop.trips) (c0_i32_1099 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off35 (k0_t2 : Fin k0_t2_loop.trips) (c0_i32_1100 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off36 (k0_t2 : Fin k0_t2_loop.trips) (c0_i32_1101 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off37 (k0_t2 : Fin k0_t2_loop.trips) (c0_i32_1102 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off38 (k0_t2 : Fin k0_t2_loop.trips) (c0_i32_1103 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off39 (k0_t2 : Fin k0_t2_loop.trips) (c0_i32_1104 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off40 (k0_t2 : Fin k0_t2_loop.trips) (c0_i32_1105 : BitVec 32) : Fin 2 → Nat :=
  let c0_i32_100 : BitVec 32 := 0#32
  let c1_i32_102 : BitVec 32 := 1#32
  let arg14 : BitVec 32 := Scf.iv c0_i32_100 c1_i32_102 k0_t2
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t3_loop : Scf.Loop 32 :=
  let c0_i32_156 : BitVec 32 := 0#32
  let c32_i32_157 : BitVec 32 := 32#32
  let v382 : BitVec 32 := Scalar.addi c0_i32_156 c32_i32_157
  let c1_i32_158 : BitVec 32 := 1#32
  ⟨c0_i32_156, v382, c1_i32_158⟩
def k0_mult3 (k0_t3 : Fin k0_t3_loop.trips) : BitVec 32 :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  v2471
def k0_off41 (k0_t3 : Fin k0_t3_loop.trips) (c0_i32_1078 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off42 (k0_t3 : Fin k0_t3_loop.trips) (c0_i32_1081 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off43 (k0_t3 : Fin k0_t3_loop.trips) (c0_i32_1083 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off44 (k0_t3 : Fin k0_t3_loop.trips) (c0_i32_1085 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off45 (k0_t3 : Fin k0_t3_loop.trips) (c0_i32_1087 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off46 (k0_t3 : Fin k0_t3_loop.trips) (c0_i32_1089 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off47 (k0_t3 : Fin k0_t3_loop.trips) (c0_i32_1090 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off48 (k0_t3 : Fin k0_t3_loop.trips) (c0_i32_1091 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off49 (k0_t3 : Fin k0_t3_loop.trips) (c0_i32_1093 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off50 (k0_t3 : Fin k0_t3_loop.trips) (c0_i32_1095 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off51 (k0_t3 : Fin k0_t3_loop.trips) (c0_i32_1096 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off52 (k0_t3 : Fin k0_t3_loop.trips) (c0_i32_1097 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off53 (k0_t3 : Fin k0_t3_loop.trips) (c0_i32_1098 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off54 (k0_t3 : Fin k0_t3_loop.trips) (c0_i32_1099 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off55 (k0_t3 : Fin k0_t3_loop.trips) (c0_i32_1100 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off56 (k0_t3 : Fin k0_t3_loop.trips) (c0_i32_1101 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off57 (k0_t3 : Fin k0_t3_loop.trips) (c0_i32_1102 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off58 (k0_t3 : Fin k0_t3_loop.trips) (c0_i32_1103 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off59 (k0_t3 : Fin k0_t3_loop.trips) (c0_i32_1104 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off60 (k0_t3 : Fin k0_t3_loop.trips) (c0_i32_1105 : BitVec 32) : Fin 2 → Nat :=
  let c0_i32_156 : BitVec 32 := 0#32
  let c1_i32_158 : BitVec 32 := 1#32
  let arg14 : BitVec 32 := Scf.iv c0_i32_156 c1_i32_158 k0_t3
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t4_loop : Scf.Loop 32 :=
  let c0_i32_208 : BitVec 32 := 0#32
  let c32_i32_209 : BitVec 32 := 32#32
  let v501 : BitVec 32 := Scalar.addi c0_i32_208 c32_i32_209
  let c1_i32_210 : BitVec 32 := 1#32
  ⟨c0_i32_208, v501, c1_i32_210⟩
def k0_mult4 (k0_t4 : Fin k0_t4_loop.trips) : BitVec 32 :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  v2471
def k0_off61 (k0_t4 : Fin k0_t4_loop.trips) (c0_i32_1078 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off62 (k0_t4 : Fin k0_t4_loop.trips) (c0_i32_1081 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off63 (k0_t4 : Fin k0_t4_loop.trips) (c0_i32_1083 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off64 (k0_t4 : Fin k0_t4_loop.trips) (c0_i32_1085 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off65 (k0_t4 : Fin k0_t4_loop.trips) (c0_i32_1087 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off66 (k0_t4 : Fin k0_t4_loop.trips) (c0_i32_1089 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off67 (k0_t4 : Fin k0_t4_loop.trips) (c0_i32_1090 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off68 (k0_t4 : Fin k0_t4_loop.trips) (c0_i32_1091 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off69 (k0_t4 : Fin k0_t4_loop.trips) (c0_i32_1093 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off70 (k0_t4 : Fin k0_t4_loop.trips) (c0_i32_1095 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off71 (k0_t4 : Fin k0_t4_loop.trips) (c0_i32_1096 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off72 (k0_t4 : Fin k0_t4_loop.trips) (c0_i32_1097 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off73 (k0_t4 : Fin k0_t4_loop.trips) (c0_i32_1098 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off74 (k0_t4 : Fin k0_t4_loop.trips) (c0_i32_1099 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off75 (k0_t4 : Fin k0_t4_loop.trips) (c0_i32_1100 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off76 (k0_t4 : Fin k0_t4_loop.trips) (c0_i32_1101 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off77 (k0_t4 : Fin k0_t4_loop.trips) (c0_i32_1102 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off78 (k0_t4 : Fin k0_t4_loop.trips) (c0_i32_1103 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off79 (k0_t4 : Fin k0_t4_loop.trips) (c0_i32_1104 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off80 (k0_t4 : Fin k0_t4_loop.trips) (c0_i32_1105 : BitVec 32) : Fin 2 → Nat :=
  let c0_i32_208 : BitVec 32 := 0#32
  let c1_i32_210 : BitVec 32 := 1#32
  let arg14 : BitVec 32 := Scf.iv c0_i32_208 c1_i32_210 k0_t4
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t5_loop : Scf.Loop 32 :=
  let c0_i32_264 : BitVec 32 := 0#32
  let c32_i32_265 : BitVec 32 := 32#32
  let v628 : BitVec 32 := Scalar.addi c0_i32_264 c32_i32_265
  let c1_i32_266 : BitVec 32 := 1#32
  ⟨c0_i32_264, v628, c1_i32_266⟩
def k0_mult5 (k0_t5 : Fin k0_t5_loop.trips) : BitVec 32 :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  v2471
def k0_off81 (k0_t5 : Fin k0_t5_loop.trips) (c0_i32_1078 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off82 (k0_t5 : Fin k0_t5_loop.trips) (c0_i32_1081 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off83 (k0_t5 : Fin k0_t5_loop.trips) (c0_i32_1083 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off84 (k0_t5 : Fin k0_t5_loop.trips) (c0_i32_1085 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off85 (k0_t5 : Fin k0_t5_loop.trips) (c0_i32_1087 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off86 (k0_t5 : Fin k0_t5_loop.trips) (c0_i32_1089 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off87 (k0_t5 : Fin k0_t5_loop.trips) (c0_i32_1090 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off88 (k0_t5 : Fin k0_t5_loop.trips) (c0_i32_1091 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off89 (k0_t5 : Fin k0_t5_loop.trips) (c0_i32_1093 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off90 (k0_t5 : Fin k0_t5_loop.trips) (c0_i32_1095 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off91 (k0_t5 : Fin k0_t5_loop.trips) (c0_i32_1096 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off92 (k0_t5 : Fin k0_t5_loop.trips) (c0_i32_1097 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off93 (k0_t5 : Fin k0_t5_loop.trips) (c0_i32_1098 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off94 (k0_t5 : Fin k0_t5_loop.trips) (c0_i32_1099 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off95 (k0_t5 : Fin k0_t5_loop.trips) (c0_i32_1100 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off96 (k0_t5 : Fin k0_t5_loop.trips) (c0_i32_1101 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off97 (k0_t5 : Fin k0_t5_loop.trips) (c0_i32_1102 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off98 (k0_t5 : Fin k0_t5_loop.trips) (c0_i32_1103 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off99 (k0_t5 : Fin k0_t5_loop.trips) (c0_i32_1104 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off100 (k0_t5 : Fin k0_t5_loop.trips) (c0_i32_1105 : BitVec 32) : Fin 2 → Nat :=
  let c0_i32_264 : BitVec 32 := 0#32
  let c1_i32_266 : BitVec 32 := 1#32
  let arg14 : BitVec 32 := Scf.iv c0_i32_264 c1_i32_266 k0_t5
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t6_loop : Scf.Loop 32 :=
  let c0_i32_316 : BitVec 32 := 0#32
  let c32_i32_317 : BitVec 32 := 32#32
  let v747 : BitVec 32 := Scalar.addi c0_i32_316 c32_i32_317
  let c1_i32_318 : BitVec 32 := 1#32
  ⟨c0_i32_316, v747, c1_i32_318⟩
def k0_mult6 (k0_t6 : Fin k0_t6_loop.trips) : BitVec 32 :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  v2471
def k0_off101 (k0_t6 : Fin k0_t6_loop.trips) (c0_i32_1078 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off102 (k0_t6 : Fin k0_t6_loop.trips) (c0_i32_1081 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off103 (k0_t6 : Fin k0_t6_loop.trips) (c0_i32_1083 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off104 (k0_t6 : Fin k0_t6_loop.trips) (c0_i32_1085 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off105 (k0_t6 : Fin k0_t6_loop.trips) (c0_i32_1087 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off106 (k0_t6 : Fin k0_t6_loop.trips) (c0_i32_1089 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off107 (k0_t6 : Fin k0_t6_loop.trips) (c0_i32_1090 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off108 (k0_t6 : Fin k0_t6_loop.trips) (c0_i32_1091 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off109 (k0_t6 : Fin k0_t6_loop.trips) (c0_i32_1093 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off110 (k0_t6 : Fin k0_t6_loop.trips) (c0_i32_1095 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off111 (k0_t6 : Fin k0_t6_loop.trips) (c0_i32_1096 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off112 (k0_t6 : Fin k0_t6_loop.trips) (c0_i32_1097 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off113 (k0_t6 : Fin k0_t6_loop.trips) (c0_i32_1098 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off114 (k0_t6 : Fin k0_t6_loop.trips) (c0_i32_1099 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off115 (k0_t6 : Fin k0_t6_loop.trips) (c0_i32_1100 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off116 (k0_t6 : Fin k0_t6_loop.trips) (c0_i32_1101 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off117 (k0_t6 : Fin k0_t6_loop.trips) (c0_i32_1102 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off118 (k0_t6 : Fin k0_t6_loop.trips) (c0_i32_1103 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off119 (k0_t6 : Fin k0_t6_loop.trips) (c0_i32_1104 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off120 (k0_t6 : Fin k0_t6_loop.trips) (c0_i32_1105 : BitVec 32) : Fin 2 → Nat :=
  let c0_i32_316 : BitVec 32 := 0#32
  let c1_i32_318 : BitVec 32 := 1#32
  let arg14 : BitVec 32 := Scf.iv c0_i32_316 c1_i32_318 k0_t6
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t7_loop : Scf.Loop 32 :=
  let c0_i32_370 : BitVec 32 := 0#32
  let c32_i32_371 : BitVec 32 := 32#32
  let v874 : BitVec 32 := Scalar.addi c0_i32_370 c32_i32_371
  let c1_i32_372 : BitVec 32 := 1#32
  ⟨c0_i32_370, v874, c1_i32_372⟩
def k0_mult7 (k0_t7 : Fin k0_t7_loop.trips) : BitVec 32 :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  v2471
def k0_off121 (k0_t7 : Fin k0_t7_loop.trips) (c0_i32_1078 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off122 (k0_t7 : Fin k0_t7_loop.trips) (c0_i32_1081 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off123 (k0_t7 : Fin k0_t7_loop.trips) (c0_i32_1083 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off124 (k0_t7 : Fin k0_t7_loop.trips) (c0_i32_1085 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off125 (k0_t7 : Fin k0_t7_loop.trips) (c0_i32_1087 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off126 (k0_t7 : Fin k0_t7_loop.trips) (c0_i32_1089 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off127 (k0_t7 : Fin k0_t7_loop.trips) (c0_i32_1090 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off128 (k0_t7 : Fin k0_t7_loop.trips) (c0_i32_1091 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off129 (k0_t7 : Fin k0_t7_loop.trips) (c0_i32_1093 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off130 (k0_t7 : Fin k0_t7_loop.trips) (c0_i32_1095 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off131 (k0_t7 : Fin k0_t7_loop.trips) (c0_i32_1096 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off132 (k0_t7 : Fin k0_t7_loop.trips) (c0_i32_1097 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off133 (k0_t7 : Fin k0_t7_loop.trips) (c0_i32_1098 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off134 (k0_t7 : Fin k0_t7_loop.trips) (c0_i32_1099 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off135 (k0_t7 : Fin k0_t7_loop.trips) (c0_i32_1100 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off136 (k0_t7 : Fin k0_t7_loop.trips) (c0_i32_1101 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off137 (k0_t7 : Fin k0_t7_loop.trips) (c0_i32_1102 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off138 (k0_t7 : Fin k0_t7_loop.trips) (c0_i32_1103 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off139 (k0_t7 : Fin k0_t7_loop.trips) (c0_i32_1104 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off140 (k0_t7 : Fin k0_t7_loop.trips) (c0_i32_1105 : BitVec 32) : Fin 2 → Nat :=
  let c0_i32_370 : BitVec 32 := 0#32
  let c1_i32_372 : BitVec 32 := 1#32
  let arg14 : BitVec 32 := Scf.iv c0_i32_370 c1_i32_372 k0_t7
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t8_loop : Scf.Loop 32 :=
  let c0_i32_422 : BitVec 32 := 0#32
  let c32_i32_423 : BitVec 32 := 32#32
  let v993 : BitVec 32 := Scalar.addi c0_i32_422 c32_i32_423
  let c1_i32_424 : BitVec 32 := 1#32
  ⟨c0_i32_422, v993, c1_i32_424⟩
def k0_mult8 (k0_t8 : Fin k0_t8_loop.trips) : BitVec 32 :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  v2471
def k0_off141 (k0_t8 : Fin k0_t8_loop.trips) (c0_i32_1078 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off142 (k0_t8 : Fin k0_t8_loop.trips) (c0_i32_1081 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off143 (k0_t8 : Fin k0_t8_loop.trips) (c0_i32_1083 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off144 (k0_t8 : Fin k0_t8_loop.trips) (c0_i32_1085 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off145 (k0_t8 : Fin k0_t8_loop.trips) (c0_i32_1087 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off146 (k0_t8 : Fin k0_t8_loop.trips) (c0_i32_1089 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off147 (k0_t8 : Fin k0_t8_loop.trips) (c0_i32_1090 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off148 (k0_t8 : Fin k0_t8_loop.trips) (c0_i32_1091 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off149 (k0_t8 : Fin k0_t8_loop.trips) (c0_i32_1093 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off150 (k0_t8 : Fin k0_t8_loop.trips) (c0_i32_1095 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off151 (k0_t8 : Fin k0_t8_loop.trips) (c0_i32_1096 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off152 (k0_t8 : Fin k0_t8_loop.trips) (c0_i32_1097 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off153 (k0_t8 : Fin k0_t8_loop.trips) (c0_i32_1098 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off154 (k0_t8 : Fin k0_t8_loop.trips) (c0_i32_1099 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off155 (k0_t8 : Fin k0_t8_loop.trips) (c0_i32_1100 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off156 (k0_t8 : Fin k0_t8_loop.trips) (c0_i32_1101 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off157 (k0_t8 : Fin k0_t8_loop.trips) (c0_i32_1102 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off158 (k0_t8 : Fin k0_t8_loop.trips) (c0_i32_1103 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off159 (k0_t8 : Fin k0_t8_loop.trips) (c0_i32_1104 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off160 (k0_t8 : Fin k0_t8_loop.trips) (c0_i32_1105 : BitVec 32) : Fin 2 → Nat :=
  let c0_i32_422 : BitVec 32 := 0#32
  let c1_i32_424 : BitVec 32 := 1#32
  let arg14 : BitVec 32 := Scf.iv c0_i32_422 c1_i32_424 k0_t8
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t9_loop : Scf.Loop 32 :=
  let c0_i32_476 : BitVec 32 := 0#32
  let c32_i32_477 : BitVec 32 := 32#32
  let v1120 : BitVec 32 := Scalar.addi c0_i32_476 c32_i32_477
  let c1_i32_478 : BitVec 32 := 1#32
  ⟨c0_i32_476, v1120, c1_i32_478⟩
def k0_mult9 (k0_t9 : Fin k0_t9_loop.trips) : BitVec 32 :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  v2471
def k0_off161 (k0_t9 : Fin k0_t9_loop.trips) (c0_i32_1078 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off162 (k0_t9 : Fin k0_t9_loop.trips) (c0_i32_1081 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off163 (k0_t9 : Fin k0_t9_loop.trips) (c0_i32_1083 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off164 (k0_t9 : Fin k0_t9_loop.trips) (c0_i32_1085 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off165 (k0_t9 : Fin k0_t9_loop.trips) (c0_i32_1087 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off166 (k0_t9 : Fin k0_t9_loop.trips) (c0_i32_1089 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off167 (k0_t9 : Fin k0_t9_loop.trips) (c0_i32_1090 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off168 (k0_t9 : Fin k0_t9_loop.trips) (c0_i32_1091 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off169 (k0_t9 : Fin k0_t9_loop.trips) (c0_i32_1093 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off170 (k0_t9 : Fin k0_t9_loop.trips) (c0_i32_1095 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off171 (k0_t9 : Fin k0_t9_loop.trips) (c0_i32_1096 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off172 (k0_t9 : Fin k0_t9_loop.trips) (c0_i32_1097 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off173 (k0_t9 : Fin k0_t9_loop.trips) (c0_i32_1098 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off174 (k0_t9 : Fin k0_t9_loop.trips) (c0_i32_1099 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off175 (k0_t9 : Fin k0_t9_loop.trips) (c0_i32_1100 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off176 (k0_t9 : Fin k0_t9_loop.trips) (c0_i32_1101 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off177 (k0_t9 : Fin k0_t9_loop.trips) (c0_i32_1102 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off178 (k0_t9 : Fin k0_t9_loop.trips) (c0_i32_1103 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off179 (k0_t9 : Fin k0_t9_loop.trips) (c0_i32_1104 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off180 (k0_t9 : Fin k0_t9_loop.trips) (c0_i32_1105 : BitVec 32) : Fin 2 → Nat :=
  let c0_i32_476 : BitVec 32 := 0#32
  let c1_i32_478 : BitVec 32 := 1#32
  let arg14 : BitVec 32 := Scf.iv c0_i32_476 c1_i32_478 k0_t9
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t10_loop : Scf.Loop 32 :=
  let c0_i32_528 : BitVec 32 := 0#32
  let c32_i32_529 : BitVec 32 := 32#32
  let v1239 : BitVec 32 := Scalar.addi c0_i32_528 c32_i32_529
  let c1_i32_530 : BitVec 32 := 1#32
  ⟨c0_i32_528, v1239, c1_i32_530⟩
def k0_mult10 (k0_t10 : Fin k0_t10_loop.trips) : BitVec 32 :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  v2471
def k0_off181 (k0_t10 : Fin k0_t10_loop.trips) (c0_i32_1078 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off182 (k0_t10 : Fin k0_t10_loop.trips) (c0_i32_1081 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off183 (k0_t10 : Fin k0_t10_loop.trips) (c0_i32_1083 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off184 (k0_t10 : Fin k0_t10_loop.trips) (c0_i32_1085 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off185 (k0_t10 : Fin k0_t10_loop.trips) (c0_i32_1087 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off186 (k0_t10 : Fin k0_t10_loop.trips) (c0_i32_1089 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off187 (k0_t10 : Fin k0_t10_loop.trips) (c0_i32_1090 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off188 (k0_t10 : Fin k0_t10_loop.trips) (c0_i32_1091 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off189 (k0_t10 : Fin k0_t10_loop.trips) (c0_i32_1093 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off190 (k0_t10 : Fin k0_t10_loop.trips) (c0_i32_1095 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off191 (k0_t10 : Fin k0_t10_loop.trips) (c0_i32_1096 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off192 (k0_t10 : Fin k0_t10_loop.trips) (c0_i32_1097 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off193 (k0_t10 : Fin k0_t10_loop.trips) (c0_i32_1098 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off194 (k0_t10 : Fin k0_t10_loop.trips) (c0_i32_1099 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off195 (k0_t10 : Fin k0_t10_loop.trips) (c0_i32_1100 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off196 (k0_t10 : Fin k0_t10_loop.trips) (c0_i32_1101 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off197 (k0_t10 : Fin k0_t10_loop.trips) (c0_i32_1102 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off198 (k0_t10 : Fin k0_t10_loop.trips) (c0_i32_1103 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off199 (k0_t10 : Fin k0_t10_loop.trips) (c0_i32_1104 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off200 (k0_t10 : Fin k0_t10_loop.trips) (c0_i32_1105 : BitVec 32) : Fin 2 → Nat :=
  let c0_i32_528 : BitVec 32 := 0#32
  let c1_i32_530 : BitVec 32 := 1#32
  let arg14 : BitVec 32 := Scf.iv c0_i32_528 c1_i32_530 k0_t10
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t11_loop : Scf.Loop 32 :=
  let c0_i32_584 : BitVec 32 := 0#32
  let c32_i32_585 : BitVec 32 := 32#32
  let v1366 : BitVec 32 := Scalar.addi c0_i32_584 c32_i32_585
  let c1_i32_586 : BitVec 32 := 1#32
  ⟨c0_i32_584, v1366, c1_i32_586⟩
def k0_mult11 (k0_t11 : Fin k0_t11_loop.trips) : BitVec 32 :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  v2471
def k0_off201 (k0_t11 : Fin k0_t11_loop.trips) (c0_i32_1078 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off202 (k0_t11 : Fin k0_t11_loop.trips) (c0_i32_1081 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off203 (k0_t11 : Fin k0_t11_loop.trips) (c0_i32_1083 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off204 (k0_t11 : Fin k0_t11_loop.trips) (c0_i32_1085 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off205 (k0_t11 : Fin k0_t11_loop.trips) (c0_i32_1087 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off206 (k0_t11 : Fin k0_t11_loop.trips) (c0_i32_1089 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off207 (k0_t11 : Fin k0_t11_loop.trips) (c0_i32_1090 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off208 (k0_t11 : Fin k0_t11_loop.trips) (c0_i32_1091 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off209 (k0_t11 : Fin k0_t11_loop.trips) (c0_i32_1093 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off210 (k0_t11 : Fin k0_t11_loop.trips) (c0_i32_1095 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off211 (k0_t11 : Fin k0_t11_loop.trips) (c0_i32_1096 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off212 (k0_t11 : Fin k0_t11_loop.trips) (c0_i32_1097 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off213 (k0_t11 : Fin k0_t11_loop.trips) (c0_i32_1098 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off214 (k0_t11 : Fin k0_t11_loop.trips) (c0_i32_1099 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off215 (k0_t11 : Fin k0_t11_loop.trips) (c0_i32_1100 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off216 (k0_t11 : Fin k0_t11_loop.trips) (c0_i32_1101 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off217 (k0_t11 : Fin k0_t11_loop.trips) (c0_i32_1102 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off218 (k0_t11 : Fin k0_t11_loop.trips) (c0_i32_1103 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off219 (k0_t11 : Fin k0_t11_loop.trips) (c0_i32_1104 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off220 (k0_t11 : Fin k0_t11_loop.trips) (c0_i32_1105 : BitVec 32) : Fin 2 → Nat :=
  let c0_i32_584 : BitVec 32 := 0#32
  let c1_i32_586 : BitVec 32 := 1#32
  let arg14 : BitVec 32 := Scf.iv c0_i32_584 c1_i32_586 k0_t11
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t12_loop : Scf.Loop 32 :=
  let c0_i32_636 : BitVec 32 := 0#32
  let c32_i32_637 : BitVec 32 := 32#32
  let v1485 : BitVec 32 := Scalar.addi c0_i32_636 c32_i32_637
  let c1_i32_638 : BitVec 32 := 1#32
  ⟨c0_i32_636, v1485, c1_i32_638⟩
def k0_mult12 (k0_t12 : Fin k0_t12_loop.trips) : BitVec 32 :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  v2471
def k0_off221 (k0_t12 : Fin k0_t12_loop.trips) (c0_i32_1078 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off222 (k0_t12 : Fin k0_t12_loop.trips) (c0_i32_1081 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off223 (k0_t12 : Fin k0_t12_loop.trips) (c0_i32_1083 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off224 (k0_t12 : Fin k0_t12_loop.trips) (c0_i32_1085 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off225 (k0_t12 : Fin k0_t12_loop.trips) (c0_i32_1087 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off226 (k0_t12 : Fin k0_t12_loop.trips) (c0_i32_1089 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off227 (k0_t12 : Fin k0_t12_loop.trips) (c0_i32_1090 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off228 (k0_t12 : Fin k0_t12_loop.trips) (c0_i32_1091 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off229 (k0_t12 : Fin k0_t12_loop.trips) (c0_i32_1093 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off230 (k0_t12 : Fin k0_t12_loop.trips) (c0_i32_1095 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off231 (k0_t12 : Fin k0_t12_loop.trips) (c0_i32_1096 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off232 (k0_t12 : Fin k0_t12_loop.trips) (c0_i32_1097 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off233 (k0_t12 : Fin k0_t12_loop.trips) (c0_i32_1098 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off234 (k0_t12 : Fin k0_t12_loop.trips) (c0_i32_1099 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off235 (k0_t12 : Fin k0_t12_loop.trips) (c0_i32_1100 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off236 (k0_t12 : Fin k0_t12_loop.trips) (c0_i32_1101 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off237 (k0_t12 : Fin k0_t12_loop.trips) (c0_i32_1102 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off238 (k0_t12 : Fin k0_t12_loop.trips) (c0_i32_1103 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off239 (k0_t12 : Fin k0_t12_loop.trips) (c0_i32_1104 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off240 (k0_t12 : Fin k0_t12_loop.trips) (c0_i32_1105 : BitVec 32) : Fin 2 → Nat :=
  let c0_i32_636 : BitVec 32 := 0#32
  let c1_i32_638 : BitVec 32 := 1#32
  let arg14 : BitVec 32 := Scf.iv c0_i32_636 c1_i32_638 k0_t12
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t13_loop : Scf.Loop 32 :=
  let c0_i32_692 : BitVec 32 := 0#32
  let c32_i32_693 : BitVec 32 := 32#32
  let v1612 : BitVec 32 := Scalar.addi c0_i32_692 c32_i32_693
  let c1_i32_694 : BitVec 32 := 1#32
  ⟨c0_i32_692, v1612, c1_i32_694⟩
def k0_mult13 (k0_t13 : Fin k0_t13_loop.trips) : BitVec 32 :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  v2471
def k0_off241 (k0_t13 : Fin k0_t13_loop.trips) (c0_i32_1078 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off242 (k0_t13 : Fin k0_t13_loop.trips) (c0_i32_1081 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off243 (k0_t13 : Fin k0_t13_loop.trips) (c0_i32_1083 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off244 (k0_t13 : Fin k0_t13_loop.trips) (c0_i32_1085 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off245 (k0_t13 : Fin k0_t13_loop.trips) (c0_i32_1087 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off246 (k0_t13 : Fin k0_t13_loop.trips) (c0_i32_1089 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off247 (k0_t13 : Fin k0_t13_loop.trips) (c0_i32_1090 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off248 (k0_t13 : Fin k0_t13_loop.trips) (c0_i32_1091 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off249 (k0_t13 : Fin k0_t13_loop.trips) (c0_i32_1093 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off250 (k0_t13 : Fin k0_t13_loop.trips) (c0_i32_1095 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off251 (k0_t13 : Fin k0_t13_loop.trips) (c0_i32_1096 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off252 (k0_t13 : Fin k0_t13_loop.trips) (c0_i32_1097 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off253 (k0_t13 : Fin k0_t13_loop.trips) (c0_i32_1098 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off254 (k0_t13 : Fin k0_t13_loop.trips) (c0_i32_1099 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off255 (k0_t13 : Fin k0_t13_loop.trips) (c0_i32_1100 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off256 (k0_t13 : Fin k0_t13_loop.trips) (c0_i32_1101 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off257 (k0_t13 : Fin k0_t13_loop.trips) (c0_i32_1102 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off258 (k0_t13 : Fin k0_t13_loop.trips) (c0_i32_1103 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off259 (k0_t13 : Fin k0_t13_loop.trips) (c0_i32_1104 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off260 (k0_t13 : Fin k0_t13_loop.trips) (c0_i32_1105 : BitVec 32) : Fin 2 → Nat :=
  let c0_i32_692 : BitVec 32 := 0#32
  let c1_i32_694 : BitVec 32 := 1#32
  let arg14 : BitVec 32 := Scf.iv c0_i32_692 c1_i32_694 k0_t13
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t14_loop : Scf.Loop 32 :=
  let c0_i32_744 : BitVec 32 := 0#32
  let c32_i32_745 : BitVec 32 := 32#32
  let v1731 : BitVec 32 := Scalar.addi c0_i32_744 c32_i32_745
  let c1_i32_746 : BitVec 32 := 1#32
  ⟨c0_i32_744, v1731, c1_i32_746⟩
def k0_mult14 (k0_t14 : Fin k0_t14_loop.trips) : BitVec 32 :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  v2471
def k0_off261 (k0_t14 : Fin k0_t14_loop.trips) (c0_i32_1078 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off262 (k0_t14 : Fin k0_t14_loop.trips) (c0_i32_1081 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off263 (k0_t14 : Fin k0_t14_loop.trips) (c0_i32_1083 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off264 (k0_t14 : Fin k0_t14_loop.trips) (c0_i32_1085 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off265 (k0_t14 : Fin k0_t14_loop.trips) (c0_i32_1087 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off266 (k0_t14 : Fin k0_t14_loop.trips) (c0_i32_1089 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off267 (k0_t14 : Fin k0_t14_loop.trips) (c0_i32_1090 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off268 (k0_t14 : Fin k0_t14_loop.trips) (c0_i32_1091 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off269 (k0_t14 : Fin k0_t14_loop.trips) (c0_i32_1093 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off270 (k0_t14 : Fin k0_t14_loop.trips) (c0_i32_1095 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off271 (k0_t14 : Fin k0_t14_loop.trips) (c0_i32_1096 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off272 (k0_t14 : Fin k0_t14_loop.trips) (c0_i32_1097 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off273 (k0_t14 : Fin k0_t14_loop.trips) (c0_i32_1098 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off274 (k0_t14 : Fin k0_t14_loop.trips) (c0_i32_1099 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off275 (k0_t14 : Fin k0_t14_loop.trips) (c0_i32_1100 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off276 (k0_t14 : Fin k0_t14_loop.trips) (c0_i32_1101 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off277 (k0_t14 : Fin k0_t14_loop.trips) (c0_i32_1102 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off278 (k0_t14 : Fin k0_t14_loop.trips) (c0_i32_1103 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off279 (k0_t14 : Fin k0_t14_loop.trips) (c0_i32_1104 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off280 (k0_t14 : Fin k0_t14_loop.trips) (c0_i32_1105 : BitVec 32) : Fin 2 → Nat :=
  let c0_i32_744 : BitVec 32 := 0#32
  let c1_i32_746 : BitVec 32 := 1#32
  let arg14 : BitVec 32 := Scf.iv c0_i32_744 c1_i32_746 k0_t14
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t15_loop : Scf.Loop 32 :=
  let c0_i32_800 : BitVec 32 := 0#32
  let c32_i32_801 : BitVec 32 := 32#32
  let v1858 : BitVec 32 := Scalar.addi c0_i32_800 c32_i32_801
  let c1_i32_802 : BitVec 32 := 1#32
  ⟨c0_i32_800, v1858, c1_i32_802⟩
def k0_mult15 (k0_t15 : Fin k0_t15_loop.trips) : BitVec 32 :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  v2471
def k0_off281 (k0_t15 : Fin k0_t15_loop.trips) (c0_i32_1078 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off282 (k0_t15 : Fin k0_t15_loop.trips) (c0_i32_1081 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off283 (k0_t15 : Fin k0_t15_loop.trips) (c0_i32_1083 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off284 (k0_t15 : Fin k0_t15_loop.trips) (c0_i32_1085 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off285 (k0_t15 : Fin k0_t15_loop.trips) (c0_i32_1087 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off286 (k0_t15 : Fin k0_t15_loop.trips) (c0_i32_1089 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off287 (k0_t15 : Fin k0_t15_loop.trips) (c0_i32_1090 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off288 (k0_t15 : Fin k0_t15_loop.trips) (c0_i32_1091 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off289 (k0_t15 : Fin k0_t15_loop.trips) (c0_i32_1093 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off290 (k0_t15 : Fin k0_t15_loop.trips) (c0_i32_1095 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off291 (k0_t15 : Fin k0_t15_loop.trips) (c0_i32_1096 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off292 (k0_t15 : Fin k0_t15_loop.trips) (c0_i32_1097 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off293 (k0_t15 : Fin k0_t15_loop.trips) (c0_i32_1098 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off294 (k0_t15 : Fin k0_t15_loop.trips) (c0_i32_1099 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off295 (k0_t15 : Fin k0_t15_loop.trips) (c0_i32_1100 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off296 (k0_t15 : Fin k0_t15_loop.trips) (c0_i32_1101 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off297 (k0_t15 : Fin k0_t15_loop.trips) (c0_i32_1102 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off298 (k0_t15 : Fin k0_t15_loop.trips) (c0_i32_1103 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off299 (k0_t15 : Fin k0_t15_loop.trips) (c0_i32_1104 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off300 (k0_t15 : Fin k0_t15_loop.trips) (c0_i32_1105 : BitVec 32) : Fin 2 → Nat :=
  let c0_i32_800 : BitVec 32 := 0#32
  let c1_i32_802 : BitVec 32 := 1#32
  let arg14 : BitVec 32 := Scf.iv c0_i32_800 c1_i32_802 k0_t15
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t16_loop : Scf.Loop 32 :=
  let c0_i32_852 : BitVec 32 := 0#32
  let c32_i32_853 : BitVec 32 := 32#32
  let v1977 : BitVec 32 := Scalar.addi c0_i32_852 c32_i32_853
  let c1_i32_854 : BitVec 32 := 1#32
  ⟨c0_i32_852, v1977, c1_i32_854⟩
def k0_mult16 (k0_t16 : Fin k0_t16_loop.trips) : BitVec 32 :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  v2471
def k0_off301 (k0_t16 : Fin k0_t16_loop.trips) (c0_i32_1078 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off302 (k0_t16 : Fin k0_t16_loop.trips) (c0_i32_1081 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off303 (k0_t16 : Fin k0_t16_loop.trips) (c0_i32_1083 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off304 (k0_t16 : Fin k0_t16_loop.trips) (c0_i32_1085 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off305 (k0_t16 : Fin k0_t16_loop.trips) (c0_i32_1087 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off306 (k0_t16 : Fin k0_t16_loop.trips) (c0_i32_1089 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off307 (k0_t16 : Fin k0_t16_loop.trips) (c0_i32_1090 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off308 (k0_t16 : Fin k0_t16_loop.trips) (c0_i32_1091 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off309 (k0_t16 : Fin k0_t16_loop.trips) (c0_i32_1093 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off310 (k0_t16 : Fin k0_t16_loop.trips) (c0_i32_1095 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off311 (k0_t16 : Fin k0_t16_loop.trips) (c0_i32_1096 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off312 (k0_t16 : Fin k0_t16_loop.trips) (c0_i32_1097 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off313 (k0_t16 : Fin k0_t16_loop.trips) (c0_i32_1098 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off314 (k0_t16 : Fin k0_t16_loop.trips) (c0_i32_1099 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off315 (k0_t16 : Fin k0_t16_loop.trips) (c0_i32_1100 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off316 (k0_t16 : Fin k0_t16_loop.trips) (c0_i32_1101 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off317 (k0_t16 : Fin k0_t16_loop.trips) (c0_i32_1102 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off318 (k0_t16 : Fin k0_t16_loop.trips) (c0_i32_1103 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off319 (k0_t16 : Fin k0_t16_loop.trips) (c0_i32_1104 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off320 (k0_t16 : Fin k0_t16_loop.trips) (c0_i32_1105 : BitVec 32) : Fin 2 → Nat :=
  let c0_i32_852 : BitVec 32 := 0#32
  let c1_i32_854 : BitVec 32 := 1#32
  let arg14 : BitVec 32 := Scf.iv c0_i32_852 c1_i32_854 k0_t16
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t17_loop : Scf.Loop 32 :=
  let c0_i32_908 : BitVec 32 := 0#32
  let c32_i32_909 : BitVec 32 := 32#32
  let v2104 : BitVec 32 := Scalar.addi c0_i32_908 c32_i32_909
  let c1_i32_910 : BitVec 32 := 1#32
  ⟨c0_i32_908, v2104, c1_i32_910⟩
def k0_mult17 (k0_t17 : Fin k0_t17_loop.trips) : BitVec 32 :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  v2471
def k0_off321 (k0_t17 : Fin k0_t17_loop.trips) (c0_i32_1078 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off322 (k0_t17 : Fin k0_t17_loop.trips) (c0_i32_1081 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off323 (k0_t17 : Fin k0_t17_loop.trips) (c0_i32_1083 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off324 (k0_t17 : Fin k0_t17_loop.trips) (c0_i32_1085 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off325 (k0_t17 : Fin k0_t17_loop.trips) (c0_i32_1087 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off326 (k0_t17 : Fin k0_t17_loop.trips) (c0_i32_1089 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off327 (k0_t17 : Fin k0_t17_loop.trips) (c0_i32_1090 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off328 (k0_t17 : Fin k0_t17_loop.trips) (c0_i32_1091 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off329 (k0_t17 : Fin k0_t17_loop.trips) (c0_i32_1093 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off330 (k0_t17 : Fin k0_t17_loop.trips) (c0_i32_1095 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off331 (k0_t17 : Fin k0_t17_loop.trips) (c0_i32_1096 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off332 (k0_t17 : Fin k0_t17_loop.trips) (c0_i32_1097 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off333 (k0_t17 : Fin k0_t17_loop.trips) (c0_i32_1098 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off334 (k0_t17 : Fin k0_t17_loop.trips) (c0_i32_1099 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off335 (k0_t17 : Fin k0_t17_loop.trips) (c0_i32_1100 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off336 (k0_t17 : Fin k0_t17_loop.trips) (c0_i32_1101 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off337 (k0_t17 : Fin k0_t17_loop.trips) (c0_i32_1102 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off338 (k0_t17 : Fin k0_t17_loop.trips) (c0_i32_1103 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off339 (k0_t17 : Fin k0_t17_loop.trips) (c0_i32_1104 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off340 (k0_t17 : Fin k0_t17_loop.trips) (c0_i32_1105 : BitVec 32) : Fin 2 → Nat :=
  let c0_i32_908 : BitVec 32 := 0#32
  let c1_i32_910 : BitVec 32 := 1#32
  let arg14 : BitVec 32 := Scf.iv c0_i32_908 c1_i32_910 k0_t17
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t18_loop : Scf.Loop 32 :=
  let c0_i32_960 : BitVec 32 := 0#32
  let c32_i32_961 : BitVec 32 := 32#32
  let v2223 : BitVec 32 := Scalar.addi c0_i32_960 c32_i32_961
  let c1_i32_962 : BitVec 32 := 1#32
  ⟨c0_i32_960, v2223, c1_i32_962⟩
def k0_mult18 (k0_t18 : Fin k0_t18_loop.trips) : BitVec 32 :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  v2471
def k0_off341 (k0_t18 : Fin k0_t18_loop.trips) (c0_i32_1078 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off342 (k0_t18 : Fin k0_t18_loop.trips) (c0_i32_1081 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off343 (k0_t18 : Fin k0_t18_loop.trips) (c0_i32_1083 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off344 (k0_t18 : Fin k0_t18_loop.trips) (c0_i32_1085 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off345 (k0_t18 : Fin k0_t18_loop.trips) (c0_i32_1087 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off346 (k0_t18 : Fin k0_t18_loop.trips) (c0_i32_1089 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off347 (k0_t18 : Fin k0_t18_loop.trips) (c0_i32_1090 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off348 (k0_t18 : Fin k0_t18_loop.trips) (c0_i32_1091 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off349 (k0_t18 : Fin k0_t18_loop.trips) (c0_i32_1093 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off350 (k0_t18 : Fin k0_t18_loop.trips) (c0_i32_1095 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off351 (k0_t18 : Fin k0_t18_loop.trips) (c0_i32_1096 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off352 (k0_t18 : Fin k0_t18_loop.trips) (c0_i32_1097 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off353 (k0_t18 : Fin k0_t18_loop.trips) (c0_i32_1098 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off354 (k0_t18 : Fin k0_t18_loop.trips) (c0_i32_1099 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off355 (k0_t18 : Fin k0_t18_loop.trips) (c0_i32_1100 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off356 (k0_t18 : Fin k0_t18_loop.trips) (c0_i32_1101 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off357 (k0_t18 : Fin k0_t18_loop.trips) (c0_i32_1102 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off358 (k0_t18 : Fin k0_t18_loop.trips) (c0_i32_1103 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off359 (k0_t18 : Fin k0_t18_loop.trips) (c0_i32_1104 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off360 (k0_t18 : Fin k0_t18_loop.trips) (c0_i32_1105 : BitVec 32) : Fin 2 → Nat :=
  let c0_i32_960 : BitVec 32 := 0#32
  let c1_i32_962 : BitVec 32 := 1#32
  let arg14 : BitVec 32 := Scf.iv c0_i32_960 c1_i32_962 k0_t18
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t19_loop : Scf.Loop 32 :=
  let c0_i32_1015 : BitVec 32 := 0#32
  let c32_i32_1016 : BitVec 32 := 32#32
  let v2350 : BitVec 32 := Scalar.addi c0_i32_1015 c32_i32_1016
  let c1_i32_1017 : BitVec 32 := 1#32
  ⟨c0_i32_1015, v2350, c1_i32_1017⟩
def k0_mult19 (k0_t19 : Fin k0_t19_loop.trips) : BitVec 32 :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  v2471
def k0_off361 (k0_t19 : Fin k0_t19_loop.trips) (c0_i32_1078 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off362 (k0_t19 : Fin k0_t19_loop.trips) (c0_i32_1081 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off363 (k0_t19 : Fin k0_t19_loop.trips) (c0_i32_1083 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off364 (k0_t19 : Fin k0_t19_loop.trips) (c0_i32_1085 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off365 (k0_t19 : Fin k0_t19_loop.trips) (c0_i32_1087 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off366 (k0_t19 : Fin k0_t19_loop.trips) (c0_i32_1089 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off367 (k0_t19 : Fin k0_t19_loop.trips) (c0_i32_1090 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off368 (k0_t19 : Fin k0_t19_loop.trips) (c0_i32_1091 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off369 (k0_t19 : Fin k0_t19_loop.trips) (c0_i32_1093 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off370 (k0_t19 : Fin k0_t19_loop.trips) (c0_i32_1095 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off371 (k0_t19 : Fin k0_t19_loop.trips) (c0_i32_1096 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off372 (k0_t19 : Fin k0_t19_loop.trips) (c0_i32_1097 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off373 (k0_t19 : Fin k0_t19_loop.trips) (c0_i32_1098 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off374 (k0_t19 : Fin k0_t19_loop.trips) (c0_i32_1099 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off375 (k0_t19 : Fin k0_t19_loop.trips) (c0_i32_1100 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off376 (k0_t19 : Fin k0_t19_loop.trips) (c0_i32_1101 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off377 (k0_t19 : Fin k0_t19_loop.trips) (c0_i32_1102 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off378 (k0_t19 : Fin k0_t19_loop.trips) (c0_i32_1103 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off379 (k0_t19 : Fin k0_t19_loop.trips) (c0_i32_1104 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off380 (k0_t19 : Fin k0_t19_loop.trips) (c0_i32_1105 : BitVec 32) : Fin 2 → Nat :=
  let c0_i32_1015 : BitVec 32 := 0#32
  let c1_i32_1017 : BitVec 32 := 1#32
  let arg14 : BitVec 32 := Scf.iv c0_i32_1015 c1_i32_1017 k0_t19
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t20_loop : Scf.Loop 32 :=
  let c0_i32_1068 : BitVec 32 := 0#32
  let c32_i32_1069 : BitVec 32 := 32#32
  let v2469 : BitVec 32 := Scalar.addi c0_i32_1068 c32_i32_1069
  let c1_i32_1070 : BitVec 32 := 1#32
  ⟨c0_i32_1068, v2469, c1_i32_1070⟩
def k0_mult20 (k0_t20 : Fin k0_t20_loop.trips) : BitVec 32 :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  v2471
def k0_off381 (k0_t20 : Fin k0_t20_loop.trips) (c0_i32_1078 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2476 : BitVec 32 := Scalar.addi v2472 c0_i32_1078
  let v2477 : Index := Scalar.indexCast v2476
  let c0_1079 : Index := 0#32
  ![v2477.toNat, 0]
def k0_off382 (k0_t20 : Fin k0_t20_loop.trips) (c0_i32_1081 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2487 : BitVec 32 := Scalar.addi v2472 c0_i32_1081
  let v2488 : Index := Scalar.indexCast v2487
  let c128 : Index := 128#32
  ![v2488.toNat, 128]
def k0_off383 (k0_t20 : Fin k0_t20_loop.trips) (c0_i32_1083 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2498 : BitVec 32 := Scalar.addi v2472 c0_i32_1083
  let v2499 : Index := Scalar.indexCast v2498
  let c256 : Index := 256#32
  ![v2499.toNat, 256]
def k0_off384 (k0_t20 : Fin k0_t20_loop.trips) (c0_i32_1085 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2509 : BitVec 32 := Scalar.addi v2472 c0_i32_1085
  let v2510 : Index := Scalar.indexCast v2509
  let c384 : Index := 384#32
  ![v2510.toNat, 384]
def k0_off385 (k0_t20 : Fin k0_t20_loop.trips) (c0_i32_1087 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2520 : BitVec 32 := Scalar.addi v2472 c0_i32_1087
  let v2521 : Index := Scalar.indexCast v2520
  let c512 : Index := 512#32
  ![v2521.toNat, 512]
def k0_off386 (k0_t20 : Fin k0_t20_loop.trips) (c0_i32_1089 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2531 : BitVec 32 := Scalar.addi v2472 c0_i32_1089
  let v2532 : Index := Scalar.indexCast v2531
  let c640 : Index := 640#32
  ![v2532.toNat, 640]
def k0_off387 (k0_t20 : Fin k0_t20_loop.trips) (c0_i32_1090 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2542 : BitVec 32 := Scalar.addi v2472 c0_i32_1090
  let v2543 : Index := Scalar.indexCast v2542
  let c768 : Index := 768#32
  ![v2543.toNat, 768]
def k0_off388 (k0_t20 : Fin k0_t20_loop.trips) (c0_i32_1091 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2553 : BitVec 32 := Scalar.addi v2472 c0_i32_1091
  let v2554 : Index := Scalar.indexCast v2553
  let c896 : Index := 896#32
  ![v2554.toNat, 896]
def k0_off389 (k0_t20 : Fin k0_t20_loop.trips) (c0_i32_1093 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2564 : BitVec 32 := Scalar.addi v2472 c0_i32_1093
  let v2565 : Index := Scalar.indexCast v2564
  let c1024 : Index := 1024#32
  ![v2565.toNat, 1024]
def k0_off390 (k0_t20 : Fin k0_t20_loop.trips) (c0_i32_1095 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2575 : BitVec 32 := Scalar.addi v2472 c0_i32_1095
  let v2576 : Index := Scalar.indexCast v2575
  let c1152 : Index := 1152#32
  ![v2576.toNat, 1152]
def k0_off391 (k0_t20 : Fin k0_t20_loop.trips) (c0_i32_1096 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2586 : BitVec 32 := Scalar.addi v2472 c0_i32_1096
  let v2587 : Index := Scalar.indexCast v2586
  let c1280 : Index := 1280#32
  ![v2587.toNat, 1280]
def k0_off392 (k0_t20 : Fin k0_t20_loop.trips) (c0_i32_1097 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2597 : BitVec 32 := Scalar.addi v2472 c0_i32_1097
  let v2598 : Index := Scalar.indexCast v2597
  let c1408 : Index := 1408#32
  ![v2598.toNat, 1408]
def k0_off393 (k0_t20 : Fin k0_t20_loop.trips) (c0_i32_1098 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2608 : BitVec 32 := Scalar.addi v2472 c0_i32_1098
  let v2609 : Index := Scalar.indexCast v2608
  let c1536 : Index := 1536#32
  ![v2609.toNat, 1536]
def k0_off394 (k0_t20 : Fin k0_t20_loop.trips) (c0_i32_1099 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2619 : BitVec 32 := Scalar.addi v2472 c0_i32_1099
  let v2620 : Index := Scalar.indexCast v2619
  let c1664 : Index := 1664#32
  ![v2620.toNat, 1664]
def k0_off395 (k0_t20 : Fin k0_t20_loop.trips) (c0_i32_1100 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2630 : BitVec 32 := Scalar.addi v2472 c0_i32_1100
  let v2631 : Index := Scalar.indexCast v2630
  let c1792 : Index := 1792#32
  ![v2631.toNat, 1792]
def k0_off396 (k0_t20 : Fin k0_t20_loop.trips) (c0_i32_1101 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2641 : BitVec 32 := Scalar.addi v2472 c0_i32_1101
  let v2642 : Index := Scalar.indexCast v2641
  let c1920 : Index := 1920#32
  ![v2642.toNat, 1920]
def k0_off397 (k0_t20 : Fin k0_t20_loop.trips) (c0_i32_1102 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2652 : BitVec 32 := Scalar.addi v2472 c0_i32_1102
  let v2653 : Index := Scalar.indexCast v2652
  let c2048 : Index := 2048#32
  ![v2653.toNat, 2048]
def k0_off398 (k0_t20 : Fin k0_t20_loop.trips) (c0_i32_1103 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2663 : BitVec 32 := Scalar.addi v2472 c0_i32_1103
  let v2664 : Index := Scalar.indexCast v2663
  let c2176 : Index := 2176#32
  ![v2664.toNat, 2176]
def k0_off399 (k0_t20 : Fin k0_t20_loop.trips) (c0_i32_1104 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2674 : BitVec 32 := Scalar.addi v2472 c0_i32_1104
  let v2675 : Index := Scalar.indexCast v2674
  let c2304 : Index := 2304#32
  ![v2675.toNat, 2304]
def k0_off400 (k0_t20 : Fin k0_t20_loop.trips) (c0_i32_1105 : BitVec 32) : Fin 2 → Nat :=
  let c0_i32_1068 : BitVec 32 := 0#32
  let c1_i32_1070 : BitVec 32 := 1#32
  let arg14 : BitVec 32 := Scf.iv c0_i32_1068 c1_i32_1070 k0_t20
  let c32_i32_1076 : BitVec 32 := 32#32
  let v2471 : BitVec 32 := Scalar.muli arg14 c32_i32_1076
  let v2472 : BitVec 32 := v2471
  let v2685 : BitVec 32 := Scalar.addi v2472 c0_i32_1105
  let v2686 : Index := Scalar.indexCast v2685
  let c2432 : Index := 2432#32
  ![v2686.toNat, 2432]
@[reducible] def k0_t21_loop : Scf.Loop 32 :=
  let c0_i32_1072 : BitVec 32 := 0#32
  let c32_i32_1073 : BitVec 32 := 32#32
  let v2470 : BitVec 32 := Scalar.addi c0_i32_1072 c32_i32_1073
  let c1_i32_1074 : BitVec 32 := 1#32
  ⟨c0_i32_1072, v2470, c1_i32_1074⟩
def k0_mult21 (k0_t21 : Fin k0_t21_loop.trips) : BitVec 32 :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  v2471
def k0_off401 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2473 : Index := Scalar.indexCast v2472
  let c0_1077 : Index := 0#32
  ![v2473.toNat, 0]
def k0_off402 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2475 : Index := Scalar.indexCast v2472
  let c1280 : Index := 1280#32
  ![v2475.toNat, 1280]
def k0_off403 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2513 : Index := Scalar.indexCast v2472
  let c128 : Index := 128#32
  ![v2513.toNat, 128]
def k0_off404 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2517 : Index := Scalar.indexCast v2472
  let c1408 : Index := 1408#32
  ![v2517.toNat, 1408]
def k0_off405 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2541 : Index := Scalar.indexCast v2472
  let c256 : Index := 256#32
  ![v2541.toNat, 256]
def k0_off406 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2555 : Index := Scalar.indexCast v2472
  let c384 : Index := 384#32
  ![v2555.toNat, 384]
def k0_off407 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2559 : Index := Scalar.indexCast v2472
  let c1536 : Index := 1536#32
  ![v2559.toNat, 1536]
def k0_off408 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2583 : Index := Scalar.indexCast v2472
  let c512 : Index := 512#32
  ![v2583.toNat, 512]
def k0_off409 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2597 : Index := Scalar.indexCast v2472
  let c640 : Index := 640#32
  ![v2597.toNat, 640]
def k0_off410 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2601 : Index := Scalar.indexCast v2472
  let c1664 : Index := 1664#32
  ![v2601.toNat, 1664]
def k0_off411 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2625 : Index := Scalar.indexCast v2472
  let c768 : Index := 768#32
  ![v2625.toNat, 768]
def k0_off412 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2639 : Index := Scalar.indexCast v2472
  let c896 : Index := 896#32
  ![v2639.toNat, 896]
def k0_off413 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2643 : Index := Scalar.indexCast v2472
  let c1792 : Index := 1792#32
  ![v2643.toNat, 1792]
def k0_off414 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2667 : Index := Scalar.indexCast v2472
  let c1024 : Index := 1024#32
  ![v2667.toNat, 1024]
def k0_off415 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2681 : Index := Scalar.indexCast v2472
  let c1152 : Index := 1152#32
  ![v2681.toNat, 1152]
def k0_off416 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2685 : Index := Scalar.indexCast v2472
  let c1920 : Index := 1920#32
  ![v2685.toNat, 1920]
def k0_off417 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2727 : Index := Scalar.indexCast v2472
  let c2048 : Index := 2048#32
  ![v2727.toNat, 2048]
def k0_off418 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2769 : Index := Scalar.indexCast v2472
  let c2176 : Index := 2176#32
  ![v2769.toNat, 2176]
def k0_off419 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2811 : Index := Scalar.indexCast v2472
  let c2304 : Index := 2304#32
  ![v2811.toNat, 2304]
def k0_off420 (k0_t21 : Fin k0_t21_loop.trips) : Fin 2 → Nat :=
  let c0_i32_1072 : BitVec 32 := 0#32
  let c1_i32_1074 : BitVec 32 := 1#32
  let arg14 : BitVec 32 := Scf.iv c0_i32_1072 c1_i32_1074 k0_t21
  let c32_i32_1076 : BitVec 32 := 32#32
  let v2471 : BitVec 32 := Scalar.muli arg14 c32_i32_1076
  let v2472 : BitVec 32 := v2471
  let v2853 : Index := Scalar.indexCast v2472
  let c2432 : Index := 2432#32
  ![v2853.toNat, 2432]
@[reducible] def k0_t22_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_mult22 (k0_t22 : Fin k0_t22_loop.trips) : BitVec 32 :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  v10
def k0_off421 (k0_t22 : Fin k0_t22_loop.trips) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v12 : Index := Scalar.indexCast v11
  let c0_8 : Index := 0#32
  ![v12.toNat, 0]
def k0_off422 (k0_t22 : Fin k0_t22_loop.trips) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v22 : Index := Scalar.indexCast v11
  let c0_11 : Index := 0#32
  ![v22.toNat, 0]
def k0_off423 (k0_t22 : Fin k0_t22_loop.trips) (c0_i32_15 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v46 : BitVec 32 := Scalar.addi v11 c0_i32_15
  let v47 : Index := Scalar.indexCast v46
  let c0_16 : Index := 0#32
  ![v47.toNat, 0]
def k0_off424 (k0_t22 : Fin k0_t22_loop.trips) (c0_i32_20 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v92 : BitVec 32 := Scalar.addi v11 c0_i32_20
  let v93 : Index := Scalar.indexCast v92
  let c1280 : Index := 1280#32
  ![v93.toNat, 1280]
def k0_off425 (k0_t22 : Fin k0_t22_loop.trips) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v117 : Index := Scalar.indexCast v11
  let c128 : Index := 128#32
  ![v117.toNat, 128]
def k0_off426 (k0_t22 : Fin k0_t22_loop.trips) (c0_i32_26 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v141 : BitVec 32 := Scalar.addi v11 c0_i32_26
  let v142 : Index := Scalar.indexCast v141
  let c128_27 : Index := 128#32
  ![v142.toNat, 128]
def k0_off427 (k0_t22 : Fin k0_t22_loop.trips) (c0_i32_33 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v187 : BitVec 32 := Scalar.addi v11 c0_i32_33
  let v188 : Index := Scalar.indexCast v187
  let c1408 : Index := 1408#32
  ![v188.toNat, 1408]
def k0_off428 (k0_t22 : Fin k0_t22_loop.trips) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v212 : Index := Scalar.indexCast v11
  let c256 : Index := 256#32
  ![v212.toNat, 256]
def k0_off429 (k0_t22 : Fin k0_t22_loop.trips) (c0_i32_39 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v236 : BitVec 32 := Scalar.addi v11 c0_i32_39
  let v237 : Index := Scalar.indexCast v236
  let c256_40 : Index := 256#32
  ![v237.toNat, 256]
def k0_off430 (k0_t22 : Fin k0_t22_loop.trips) (c0_i32_46 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v282 : BitVec 32 := Scalar.addi v11 c0_i32_46
  let v283 : Index := Scalar.indexCast v282
  let c1536 : Index := 1536#32
  ![v283.toNat, 1536]
def k0_off431 (k0_t22 : Fin k0_t22_loop.trips) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v307 : Index := Scalar.indexCast v11
  let c384 : Index := 384#32
  ![v307.toNat, 384]
def k0_off432 (k0_t22 : Fin k0_t22_loop.trips) (c0_i32_52 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v331 : BitVec 32 := Scalar.addi v11 c0_i32_52
  let v332 : Index := Scalar.indexCast v331
  let c384_53 : Index := 384#32
  ![v332.toNat, 384]
def k0_off433 (k0_t22 : Fin k0_t22_loop.trips) (c0_i32_59 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v377 : BitVec 32 := Scalar.addi v11 c0_i32_59
  let v378 : Index := Scalar.indexCast v377
  let c1664 : Index := 1664#32
  ![v378.toNat, 1664]
def k0_off434 (k0_t22 : Fin k0_t22_loop.trips) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v402 : Index := Scalar.indexCast v11
  let c512 : Index := 512#32
  ![v402.toNat, 512]
def k0_off435 (k0_t22 : Fin k0_t22_loop.trips) (c0_i32_65 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v426 : BitVec 32 := Scalar.addi v11 c0_i32_65
  let v427 : Index := Scalar.indexCast v426
  let c512_66 : Index := 512#32
  ![v427.toNat, 512]
def k0_off436 (k0_t22 : Fin k0_t22_loop.trips) (c0_i32_72 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v472 : BitVec 32 := Scalar.addi v11 c0_i32_72
  let v473 : Index := Scalar.indexCast v472
  let c1792 : Index := 1792#32
  ![v473.toNat, 1792]
def k0_off437 (k0_t22 : Fin k0_t22_loop.trips) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v497 : Index := Scalar.indexCast v11
  let c640 : Index := 640#32
  ![v497.toNat, 640]
def k0_off438 (k0_t22 : Fin k0_t22_loop.trips) (c0_i32_78 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v521 : BitVec 32 := Scalar.addi v11 c0_i32_78
  let v522 : Index := Scalar.indexCast v521
  let c640_79 : Index := 640#32
  ![v522.toNat, 640]
def k0_off439 (k0_t22 : Fin k0_t22_loop.trips) (c0_i32_85 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v567 : BitVec 32 := Scalar.addi v11 c0_i32_85
  let v568 : Index := Scalar.indexCast v567
  let c1920 : Index := 1920#32
  ![v568.toNat, 1920]
def k0_off440 (k0_t22 : Fin k0_t22_loop.trips) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v592 : Index := Scalar.indexCast v11
  let c768 : Index := 768#32
  ![v592.toNat, 768]
def k0_off441 (k0_t22 : Fin k0_t22_loop.trips) (c0_i32_91 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v616 : BitVec 32 := Scalar.addi v11 c0_i32_91
  let v617 : Index := Scalar.indexCast v616
  let c768_92 : Index := 768#32
  ![v617.toNat, 768]
def k0_off442 (k0_t22 : Fin k0_t22_loop.trips) (c0_i32_98 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v662 : BitVec 32 := Scalar.addi v11 c0_i32_98
  let v663 : Index := Scalar.indexCast v662
  let c2048 : Index := 2048#32
  ![v663.toNat, 2048]
def k0_off443 (k0_t22 : Fin k0_t22_loop.trips) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v687 : Index := Scalar.indexCast v11
  let c896 : Index := 896#32
  ![v687.toNat, 896]
def k0_off444 (k0_t22 : Fin k0_t22_loop.trips) (c0_i32_104 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v711 : BitVec 32 := Scalar.addi v11 c0_i32_104
  let v712 : Index := Scalar.indexCast v711
  let c896_105 : Index := 896#32
  ![v712.toNat, 896]
def k0_off445 (k0_t22 : Fin k0_t22_loop.trips) (c0_i32_111 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v757 : BitVec 32 := Scalar.addi v11 c0_i32_111
  let v758 : Index := Scalar.indexCast v757
  let c2176 : Index := 2176#32
  ![v758.toNat, 2176]
def k0_off446 (k0_t22 : Fin k0_t22_loop.trips) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v782 : Index := Scalar.indexCast v11
  let c1024 : Index := 1024#32
  ![v782.toNat, 1024]
def k0_off447 (k0_t22 : Fin k0_t22_loop.trips) (c0_i32_117 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v806 : BitVec 32 := Scalar.addi v11 c0_i32_117
  let v807 : Index := Scalar.indexCast v806
  let c1024_118 : Index := 1024#32
  ![v807.toNat, 1024]
def k0_off448 (k0_t22 : Fin k0_t22_loop.trips) (c0_i32_124 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v852 : BitVec 32 := Scalar.addi v11 c0_i32_124
  let v853 : Index := Scalar.indexCast v852
  let c2304 : Index := 2304#32
  ![v853.toNat, 2304]
def k0_off449 (k0_t22 : Fin k0_t22_loop.trips) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v877 : Index := Scalar.indexCast v11
  let c1152 : Index := 1152#32
  ![v877.toNat, 1152]
def k0_off450 (k0_t22 : Fin k0_t22_loop.trips) (c0_i32_130 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v901 : BitVec 32 := Scalar.addi v11 c0_i32_130
  let v902 : Index := Scalar.indexCast v901
  let c1152_131 : Index := 1152#32
  ![v902.toNat, 1152]
def k0_off451 (k0_t22 : Fin k0_t22_loop.trips) (c0_i32_137 : BitVec 32) : Fin 2 → Nat :=
  let c0_i32_1 : BitVec 32 := 0#32
  let c1_i32 : BitVec 32 := 1#32
  let arg14 : BitVec 32 := Scf.iv c0_i32_1 c1_i32 k0_t22
  let c32_i32 : BitVec 32 := 32#32
  let v10 : BitVec 32 := Scalar.muli arg14 c32_i32
  let v11 : BitVec 32 := v10
  let v947 : BitVec 32 := Scalar.addi v11 c0_i32_137
  let v948 : Index := Scalar.indexCast v947
  let c2432 : Index := 2432#32
  ![v948.toNat, 2432]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S5 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1280 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2560 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4x256x2560 : Shape := ⟨3, ![4, 256, 2560]⟩
abbrev S2560 : Shape := ⟨1, ![2560]⟩
abbrev S6 : Shape := ⟨1, ![6]⟩
abbrev S5 : Shape := ⟨1, ![5]⟩
abbrev S6912x1280 : Shape := ⟨2, ![6912, 1280]⟩
abbrev S6912x5 : Shape := ⟨2, ![6912, 5]⟩
abbrev S1x2560 : Shape := ⟨2, ![1, 2560]⟩
abbrev S6x1 : Shape := ⟨2, ![6, 1]⟩
abbrev S6x2560 : Shape := ⟨2, ![6, 2560]⟩
abbrev S_ : Shape := ⟨0, ![]⟩
abbrev S1024x2560 : Shape := ⟨2, ![1024, 2560]⟩
abbrev S2560x1 : Shape := ⟨2, ![2560, 1]⟩
abbrev S1280 : Shape := ⟨1, ![1280]⟩
abbrev S1280x1 : Shape := ⟨2, ![1280, 1]⟩
abbrev S1024x1280 : Shape := ⟨2, ![1024, 1280]⟩
abbrev S1024x6912 : Shape := ⟨2, ![1024, 6912]⟩

abbrev nBuf : Space → Nat
  | .hbm => 158
  | .vmem => 0
  | .smem => 0
  | _ => 0

abbrev hbmTy0_0 (i : Nat) : BufTy := match i % 128 with
  | 0 => ⟨S4x256x2560, .bf16⟩
  | 1 => ⟨S2560, .i32⟩
  | 2 => ⟨S6, .i32⟩
  | 3 => ⟨S5, .f32⟩
  | 4 => ⟨S5, .i32⟩
  | 5 => ⟨S6912x1280, .i8⟩
  | 6 => ⟨S6912x5, .f32⟩
  | 7 => ⟨S6912x5, .i8⟩
  | 8 => ⟨S2560, .i32⟩
  | 9 => ⟨S1x2560, .i32⟩
  | 10 => ⟨S6x1, .i32⟩
  | 11 => ⟨S6x2560, .i32⟩
  | 12 => ⟨S6x2560, .i32⟩
  | 13 => ⟨S6x2560, .i1⟩
  | 14 => ⟨S6x2560, .i32⟩
  | 15 => ⟨S_, .i32⟩
  | 16 => ⟨S2560, .i32⟩
  | 17 => ⟨S_, .i32⟩
  | 18 => ⟨S2560, .i32⟩
  | 19 => ⟨S2560, .i32⟩
  | 20 => ⟨S1024x2560, .bf16⟩
  | 21 => ⟨S_, .i32⟩
  | 22 => ⟨S2560, .i32⟩
  | 23 => ⟨S2560, .i1⟩
  | 24 => ⟨S_, .i32⟩
  | 25 => ⟨S2560, .i32⟩
  | 26 => ⟨S2560, .i32⟩
  | 27 => ⟨S2560, .i32⟩
  | 28 => ⟨S2560x1, .i32⟩
  | 29 => ⟨S1024x2560, .bf16⟩
  | 30 => ⟨S1024x2560, .f32⟩
  | 31 => ⟨S_, .i32⟩
  | 32 => ⟨S2560, .i32⟩
  | 33 => ⟨S2560, .i1⟩
  | 34 => ⟨S_, .i32⟩
  | 35 => ⟨S2560, .i32⟩
  | 36 => ⟨S2560, .i32⟩
  | 37 => ⟨S2560, .i32⟩
  | 38 => ⟨S2560x1, .i32⟩
  | 39 => ⟨S2560, .f32⟩
  | 40 => ⟨S_, .i32⟩
  | 41 => ⟨S2560, .i32⟩
  | 42 => ⟨S2560, .i1⟩
  | 43 => ⟨S_, .i32⟩
  | 44 => ⟨S2560, .i32⟩
  | 45 => ⟨S2560, .i32⟩
  | 46 => ⟨S2560, .i32⟩
  | 47 => ⟨S2560x1, .i32⟩
  | 48 => ⟨S2560, .i32⟩
  | 49 => ⟨S2560, .f32⟩
  | 50 => ⟨S1x2560, .f32⟩
  | 51 => ⟨S1024x2560, .f32⟩
  | 52 => ⟨S1024x2560, .f32⟩
  | 53 => ⟨S1024x2560, .f32⟩
  | 54 => ⟨S1x2560, .f32⟩
  | 55 => ⟨S1024x2560, .f32⟩
  | 56 => ⟨S1024x2560, .f32⟩
  | 57 => ⟨S_, .i32⟩
  | 58 => ⟨S_, .i32⟩
  | 59 => ⟨S_, .f32⟩
  | 60 => ⟨S1024x2560, .f32⟩
  | 61 => ⟨S1024x2560, .f32⟩
  | 62 => ⟨S_, .f32⟩
  | 63 => ⟨S1024x2560, .f32⟩
  | 64 => ⟨S1024x2560, .f32⟩
  | 65 => ⟨S1024x2560, .i32⟩
  | 66 => ⟨S1024x2560, .i8⟩
  | 67 => ⟨S1024x2560, .i32⟩
  | 68 => ⟨S1024x2560, .bf16⟩
  | 69 => ⟨S_, .i32⟩
  | 70 => ⟨S2560, .i32⟩
  | 71 => ⟨S2560, .i1⟩
  | 72 => ⟨S_, .i32⟩
  | 73 => ⟨S2560, .i32⟩
  | 74 => ⟨S2560, .i32⟩
  | 75 => ⟨S2560, .i32⟩
  | 76 => ⟨S2560x1, .i32⟩
  | 77 => ⟨S2560, .i32⟩
  | 78 => ⟨S2560, .bf16⟩
  | 79 => ⟨S1x2560, .bf16⟩
  | 80 => ⟨S1024x2560, .bf16⟩
  | 81 => ⟨S1024x2560, .bf16⟩
  | 82 => ⟨S_, .i32⟩
  | 83 => ⟨S2560, .i32⟩
  | 84 => ⟨S2560, .i1⟩
  | 85 => ⟨S_, .i32⟩
  | 86 => ⟨S2560, .i32⟩
  | 87 => ⟨S2560, .i32⟩
  | 88 => ⟨S2560, .i32⟩
  | 89 => ⟨S2560x1, .i32⟩
  | 90 => ⟨S2560, .f32⟩
  | 91 => ⟨S2560, .bf16⟩
  | 92 => ⟨S1x2560, .bf16⟩
  | 93 => ⟨S1024x2560, .bf16⟩
  | 94 => ⟨S1024x2560, .bf16⟩
  | 95 => ⟨S1280, .i32⟩
  | 96 => ⟨S1280, .i32⟩
  | 97 => ⟨S6912x1280, .i32⟩
  | 98 => ⟨S_, .i32⟩
  | 99 => ⟨S6912x1280, .i32⟩
  | 100 => ⟨S6912x1280, .i32⟩
  | 101 => ⟨S6912x1280, .bf16⟩
  | 102 => ⟨S_, .i32⟩
  | 103 => ⟨S6912x1280, .i32⟩
  | 104 => ⟨S6912x1280, .i32⟩
  | 105 => ⟨S6912x1280, .bf16⟩
  | 106 => ⟨S_, .i32⟩
  | 107 => ⟨S1280, .i32⟩
  | 108 => ⟨S1280, .i1⟩
  | 109 => ⟨S_, .i32⟩
  | 110 => ⟨S1280, .i32⟩
  | 111 => ⟨S1280, .i32⟩
  | 112 => ⟨S1280, .i32⟩
  | 113 => ⟨S1280x1, .i32⟩
  | 114 => ⟨S6912x1280, .i8⟩
  | 115 => ⟨S6912x1280, .i32⟩
  | 116 => ⟨S6912x1280, .bf16⟩
  | 117 => ⟨S6912x1280, .bf16⟩
  | 118 => ⟨S_, .i32⟩
  | 119 => ⟨S1280, .i32⟩
  | 120 => ⟨S1280, .i1⟩
  | 121 => ⟨S_, .i32⟩
  | 122 => ⟨S1280, .i32⟩
  | 123 => ⟨S1280, .i32⟩
  | 124 => ⟨S1280, .i32⟩
  | 125 => ⟨S1280x1, .i32⟩
  | 126 => ⟨S6912x1280, .f32⟩
  | 127 => ⟨S6912x1280, .bf16⟩
  | _ => ⟨S4x256x2560, .bf16⟩

abbrev hbmTy0_1 (i : Nat) : BufTy := match i % 128 with
  | 0 => ⟨S6912x1280, .bf16⟩
  | 1 => ⟨S_, .i32⟩
  | 2 => ⟨S1280, .i32⟩
  | 3 => ⟨S1280, .i1⟩
  | 4 => ⟨S_, .i32⟩
  | 5 => ⟨S1280, .i32⟩
  | 6 => ⟨S1280, .i32⟩
  | 7 => ⟨S1280, .i32⟩
  | 8 => ⟨S1280x1, .i32⟩
  | 9 => ⟨S6912x1280, .i8⟩
  | 10 => ⟨S6912x1280, .i32⟩
  | 11 => ⟨S6912x1280, .bf16⟩
  | 12 => ⟨S6912x1280, .bf16⟩
  | 13 => ⟨S_, .i32⟩
  | 14 => ⟨S1280, .i32⟩
  | 15 => ⟨S1280, .i1⟩
  | 16 => ⟨S_, .i32⟩
  | 17 => ⟨S1280, .i32⟩
  | 18 => ⟨S1280, .i32⟩
  | 19 => ⟨S1280, .i32⟩
  | 20 => ⟨S1280x1, .i32⟩
  | 21 => ⟨S6912x1280, .f32⟩
  | 22 => ⟨S6912x1280, .bf16⟩
  | 23 => ⟨S6912x1280, .bf16⟩
  | 24 => ⟨S1024x1280, .bf16⟩
  | 25 => ⟨S1024x6912, .f32⟩
  | 26 => ⟨S1024x1280, .bf16⟩
  | 27 => ⟨S1024x6912, .f32⟩
  | 28 => ⟨S1024x6912, .f32⟩
  | 29 => ⟨S1024x6912, .bf16⟩
  | _ => ⟨S4x256x2560, .bf16⟩

abbrev hbmTy (i : Nat) : BufTy := match i / 128 with
  | 0 => hbmTy0_0 i
  | 1 => hbmTy0_1 i
  | _ => ⟨S4x256x2560, .bf16⟩

abbrev bufTy : (tb : Table) → Fin (tcTables nBuf tb) → BufTy
  | .hbm, ⟨i, _⟩ => hbmTy i
  | _, _ => ⟨S4x256x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_c : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_c_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_8 : Ref sig .tc := ⟨.hbm, 69, rfl⟩
abbrev main_v40 : Ref sig .tc := ⟨.hbm, 70, rfl⟩
abbrev main_v41 : Ref sig .tc := ⟨.hbm, 71, rfl⟩
abbrev main_c_9 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_c_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_14 : Ref sig .tc := ⟨.hbm, 106, rfl⟩
abbrev main_v71 : Ref sig .tc := ⟨.hbm, 107, rfl⟩
abbrev main_v72 : Ref sig .tc := ⟨.hbm, 108, rfl⟩
abbrev main_c_15 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_16 : Ref sig .tc := ⟨.hbm, 118, rfl⟩
abbrev main_v81 : Ref sig .tc := ⟨.hbm, 119, rfl⟩
abbrev main_v82 : Ref sig .tc := ⟨.hbm, 120, rfl⟩
abbrev main_c_17 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_18 : Ref sig .tc := ⟨.hbm, 129, rfl⟩
abbrev main_v90 : Ref sig .tc := ⟨.hbm, 130, rfl⟩
abbrev main_v91 : Ref sig .tc := ⟨.hbm, 131, rfl⟩
abbrev main_c_19 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_c_20 : Ref sig .tc := ⟨.hbm, 141, rfl⟩
abbrev main_v100 : Ref sig .tc := ⟨.hbm, 142, rfl⟩
abbrev main_v101 : Ref sig .tc := ⟨.hbm, 143, rfl⟩
abbrev main_c_21 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩

abbrev nD : Nat := 1
abbrev τ : Topo := Topo.v7x

variable {F : FTy → Type} [FloatOps F]
-- ==== Proof.Kernel.Runs.lean ====
/- The frame of the kernel program: the branch condition by grid point, the staging buffers, and the scoped buffers a point owns. -/
module

public import proofs.«01_k».proof.Proof.Gen.Kernel.Frame
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle is checked by a recursion, one step per coordinate of the long axes
set_option maxRecDepth 16384

noncomputable section

namespace Cert.Kernel.Own

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-! ## The frame from a run -/

/-- The frame from a run: for proof data whose arrays are those the region finds, a run to the pipeline's post leaves the argument
    arrays unchanged. -/
theorem frame_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 0 rfl).trans ((hA c 0).trans (V_main_arg2 m c)),
      (Pipeline.RDat.FramePost.arr_in h c 1 rfl).trans ((hA c 1).trans (V_main_arg3 m c)),
      (Pipeline.RDat.FramePost.arr_in h c 2 rfl).trans ((hA c 2).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩) h

/-! ## The body's branch conditions -/

/-- The body's branch condition, from the grid coordinates. -/
abbrev cond0_0 (i : grid0.Coords) : Prop := k0_cond1 i = 1#1
/-- It holds at the first point only — by arithmetic of the point. -/
theorem hcond0_0 : ∀ t : Fin cfg0.N, cond0_0 (grid0.coords t) ↔ t.val % 27 = 0 :=
  (fun t => by
    have ht : t.val < 27 := Nat.lt_of_lt_of_eq t.isLt N_0
    have e0 : (grid0.coords t 0).val = t.val / 1 % 27 := Pipeline.Grid.coords_val t 0 (by decide) rfl
    simp only [cond0_0, k0_cond1, e0]
    word_cmp
   : ∀ t : Fin grid0.N, cond0_0 (grid0.coords t) ↔ t.val % 27 = 0)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The buffers the body is passed -/

/-- Each window's current staging memref at point `t`, spelled as the pipeline passes it (`bodyAt0`), and its wholeness. -/
abbrev ms0_0 (t : Fin cfg0.N) : Memref sig .tc .smem S6 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S5 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S5 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S20x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2560 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1280 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x5 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x5 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x2560 .i8 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1024x2560 .bf16 := Memref.whole cc0_scratch0
abbrev scM0_1 : Memref sig .tc .vmem S1024x2560 .bf16 := Memref.whole cc0_scratch1
abbrev scM0_2 : Memref sig .tc .vmem S20x8x128 .i32 := Memref.whole cc0_scratch2
/-- The scratch `arg13` the kernel carries between points, as a view: what it holds is stated through it. -/
abbrev VS0_2 : View sig .tc .vmem S20x8x128 .i32 := scM0_2.view

/-- The scoped buffers the region starts with, as the scratch operands owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Own

end
-- ==== Proof.Kernel.RunA.lean ====
/- The body at the first grid point. -/
module

public import proofs.«01_k».proof.Proof.Kernel.Runs

@[expose] public section

-- membership in a rectangle is checked by a recursion, one step per coordinate of the long axes
set_option maxRecDepth 16384

noncomputable section

namespace Cert.Kernel.Own

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the proof term is large, and closing the definition walks all of it
set_option maxHeartbeats 4604000 in
/-- The pieces the body stores into each scratch it carries at the first grid point, with the proof that it runs: from inputs holding their
    blocks, outputs and other scratch holding anything, it ends with the inputs as they were, the carried scratch with those
    pieces written, and the rest holding something. -/
noncomputable def bodyRun0_A (c : Dev nD) (i : grid0.Coords) (arg1 : Memref sig .tc .smem S6 .i32) (harg1 : arg1.IsWhole) (arg2 : Memref sig .tc .smem S5 .f32) (harg2 : arg2.IsWhole) (arg3 : Memref sig .tc .smem S5 .i32) (harg3 : arg3.IsWhole) (arg4 : Memref sig .tc .vmem S20x128 .i32) (harg4 : arg4.IsWhole) (arg5 : Memref sig .tc .vmem S1024x2560 .bf16) (harg5 : arg5.IsWhole) (arg6 : Memref sig .tc .vmem S256x1280 .i8) (harg6 : arg6.IsWhole) (arg7 : Memref sig .tc .vmem S256x5 .f32) (harg7 : arg7.IsWhole) (arg8 : Memref sig .tc .vmem S256x5 .i8) (harg8 : arg8.IsWhole) (arg9 : Memref sig .tc .vmem S1024x256 .bf16) (harg9 : arg9.IsWhole) (arg10 : Memref sig .tc .vmem S1024x2560 .i8) (harg10 : arg10.IsWhole) (arg11 : Memref sig .tc .vmem S1024x2560 .bf16) (harg11 : arg11.IsWhole) (arg12 : Memref sig .tc .vmem S1024x2560 .bf16) (harg12 : arg12.IsWhole) (arg13 : Memref sig .tc .vmem S20x8x128 .i32) (harg13 : arg13.IsWhole) (hc0 : cond0_0 i)
    (x0 : Vec F S6 .i32) (x1 : Vec F S5 .f32) (x2 : Vec F S5 .i32) (x3 : Vec F S20x128 .i32) (x4 : Vec F S1024x2560 .bf16) (x5 : Vec F S256x1280 .i8) (x6 : Vec F S256x5 .f32) (x7 : Vec F S256x5 .i8) :
    { LS2 : List (View.Piece (Elt F) S20x8x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__body_eq_skeleton]; unfold cc0__body_skel
    simp only [k0_part270_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    iexists _; iexact HS2

end Cert.Kernel.Own

end
-- ==== Proof.Kernel.RunB.lean ====
/- The body at every later grid point. -/
module

public import proofs.«01_k».proof.Proof.Kernel.RunA

@[expose] public section

-- membership in a rectangle is checked by a recursion, one step per coordinate of the long axes
set_option maxRecDepth 16384

noncomputable section

namespace Cert.Kernel.Own

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the proof term is large, and closing the definition walks all of it
set_option maxHeartbeats 1000000 in
/-- The pieces the body stores into each scratch it carries at every later grid point, with the proof that it runs: from inputs holding their
    blocks, outputs and other scratch holding anything, it ends with the inputs as they were, the carried scratch with those
    pieces written, and the rest holding something. -/
noncomputable def bodyRun0_B (c : Dev nD) (i : grid0.Coords) (arg1 : Memref sig .tc .smem S6 .i32) (harg1 : arg1.IsWhole) (arg2 : Memref sig .tc .smem S5 .f32) (harg2 : arg2.IsWhole) (arg3 : Memref sig .tc .smem S5 .i32) (harg3 : arg3.IsWhole) (arg4 : Memref sig .tc .vmem S20x128 .i32) (harg4 : arg4.IsWhole) (arg5 : Memref sig .tc .vmem S1024x2560 .bf16) (harg5 : arg5.IsWhole) (arg6 : Memref sig .tc .vmem S256x1280 .i8) (harg6 : arg6.IsWhole) (arg7 : Memref sig .tc .vmem S256x5 .f32) (harg7 : arg7.IsWhole) (arg8 : Memref sig .tc .vmem S256x5 .i8) (harg8 : arg8.IsWhole) (arg9 : Memref sig .tc .vmem S1024x256 .bf16) (harg9 : arg9.IsWhole) (arg10 : Memref sig .tc .vmem S1024x2560 .i8) (harg10 : arg10.IsWhole) (arg11 : Memref sig .tc .vmem S1024x2560 .bf16) (harg11 : arg11.IsWhole) (arg12 : Memref sig .tc .vmem S1024x2560 .bf16) (harg12 : arg12.IsWhole) (arg13 : Memref sig .tc .vmem S20x8x128 .i32) (harg13 : arg13.IsWhole) (hc0 : ¬cond0_0 i)
    (x0 : Vec F S6 .i32) (x1 : Vec F S5 .f32) (x2 : Vec F S5 .i32) (x3 : Vec F S20x128 .i32) (x4 : Vec F S1024x2560 .bf16) (x5 : Vec F S256x1280 .i8) (x6 : Vec F S256x5 .f32) (x7 : Vec F S256x5 .i8) (xs2 : Vec F S20x8x128 .i32) :
    { LS2 : List (View.Piece (Elt F) S20x8x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs2) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨[], fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    iexists _; isplitr; · ipureintro; exact harg13.read_unread _
    iexact HS2

end Cert.Kernel.Own

end
-- ==== Proof.Kernel.Frame.lean ====
/- The frame of the kernel program: every weakly fair run terminates and leaves the arguments unchanged. -/
module

public import proofs.«01_k».proof.Proof.Kernel.RunB
public import Idealize.ShloMosaic.Lib.Claim

@[expose] public section

-- membership in a rectangle is checked by a recursion, one step per coordinate of the long axes
set_option maxRecDepth 16384

noncomputable section

namespace Cert.Kernel.Own

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- At the first point the twenty stored pieces cover the array of clusters, which is kept between points. -/
theorem scover0_A_2 (c : Dev nD) (i : grid0.Coords) (arg1 : Memref sig .tc .smem S6 .i32) (harg1 : arg1.IsWhole) (arg2 : Memref sig .tc .smem S5 .f32) (harg2 : arg2.IsWhole) (arg3 : Memref sig .tc .smem S5 .i32) (harg3 : arg3.IsWhole) (arg4 : Memref sig .tc .vmem S20x128 .i32) (harg4 : arg4.IsWhole) (arg5 : Memref sig .tc .vmem S1024x2560 .bf16) (harg5 : arg5.IsWhole) (arg6 : Memref sig .tc .vmem S256x1280 .i8) (harg6 : arg6.IsWhole) (arg7 : Memref sig .tc .vmem S256x5 .f32) (harg7 : arg7.IsWhole) (arg8 : Memref sig .tc .vmem S256x5 .i8) (harg8 : arg8.IsWhole) (arg9 : Memref sig .tc .vmem S1024x256 .bf16) (harg9 : arg9.IsWhole) (arg10 : Memref sig .tc .vmem S1024x2560 .i8) (harg10 : arg10.IsWhole) (arg11 : Memref sig .tc .vmem S1024x2560 .bf16) (harg11 : arg11.IsWhole) (arg12 : Memref sig .tc .vmem S1024x2560 .bf16) (harg12 : arg12.IsWhole) (arg13 : Memref sig .tc .vmem S20x8x128 .i32) (harg13 : arg13.IsWhole) (hc0 : cond0_0 i)
    (x0 : Vec F S6 .i32) (x1 : Vec F S5 .f32) (x2 : Vec F S5 .i32) (x3 : Vec F S20x128 .i32) (x4 : Vec F S1024x2560 .bf16) (x5 : Vec F S256x1280 .i8) (x6 : Vec F S256x5 .f32) (x7 : Vec F S256x5 .i8) (y : S20x8x128.Idx) :
    ∃ pc ∈ (bodyRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1, y ∈ pc.1.set :=
  View.cover_of_tiledL (bodyRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1 S1x8x128.size (by sl_kernel_rfl) y

/-- What the first point leaves in the array of clusters: its pieces read back. -/
def sout0_A_2 (c : Dev nD) (i : grid0.Coords) (arg1 : Memref sig .tc .smem S6 .i32) (harg1 : arg1.IsWhole) (arg2 : Memref sig .tc .smem S5 .f32) (harg2 : arg2.IsWhole) (arg3 : Memref sig .tc .smem S5 .i32) (harg3 : arg3.IsWhole) (arg4 : Memref sig .tc .vmem S20x128 .i32) (harg4 : arg4.IsWhole) (arg5 : Memref sig .tc .vmem S1024x2560 .bf16) (harg5 : arg5.IsWhole) (arg6 : Memref sig .tc .vmem S256x1280 .i8) (harg6 : arg6.IsWhole) (arg7 : Memref sig .tc .vmem S256x5 .f32) (harg7 : arg7.IsWhole) (arg8 : Memref sig .tc .vmem S256x5 .i8) (harg8 : arg8.IsWhole) (arg9 : Memref sig .tc .vmem S1024x256 .bf16) (harg9 : arg9.IsWhole) (arg10 : Memref sig .tc .vmem S1024x2560 .i8) (harg10 : arg10.IsWhole) (arg11 : Memref sig .tc .vmem S1024x2560 .bf16) (harg11 : arg11.IsWhole) (arg12 : Memref sig .tc .vmem S1024x2560 .bf16) (harg12 : arg12.IsWhole) (arg13 : Memref sig .tc .vmem S20x8x128 .i32) (harg13 : arg13.IsWhole) (hc0 : cond0_0 i)
    (x0 : Vec F S6 .i32) (x1 : Vec F S5 .f32) (x2 : Vec F S5 .i32) (x3 : Vec F S20x128 .i32) (x4 : Vec F S1024x2560 .bf16) (x5 : Vec F S256x1280 .i8) (x6 : Vec F S256x5 .f32) (x7 : Vec F S256x5 .i8) : Vec F S20x8x128 .i32 :=
  VS0_2.read (Elt F) (VS0_2.writes (Elt F) VS0_2.junk (bodyRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1)

/-- A later point stores nothing into the array of clusters: it holds what the point before left. -/
def sout0_B_2 (c : Dev nD) (i : grid0.Coords) (arg1 : Memref sig .tc .smem S6 .i32) (harg1 : arg1.IsWhole) (arg2 : Memref sig .tc .smem S5 .f32) (harg2 : arg2.IsWhole) (arg3 : Memref sig .tc .smem S5 .i32) (harg3 : arg3.IsWhole) (arg4 : Memref sig .tc .vmem S20x128 .i32) (harg4 : arg4.IsWhole) (arg5 : Memref sig .tc .vmem S1024x2560 .bf16) (harg5 : arg5.IsWhole) (arg6 : Memref sig .tc .vmem S256x1280 .i8) (harg6 : arg6.IsWhole) (arg7 : Memref sig .tc .vmem S256x5 .f32) (harg7 : arg7.IsWhole) (arg8 : Memref sig .tc .vmem S256x5 .i8) (harg8 : arg8.IsWhole) (arg9 : Memref sig .tc .vmem S1024x256 .bf16) (harg9 : arg9.IsWhole) (arg10 : Memref sig .tc .vmem S1024x2560 .i8) (harg10 : arg10.IsWhole) (arg11 : Memref sig .tc .vmem S1024x2560 .bf16) (harg11 : arg11.IsWhole) (arg12 : Memref sig .tc .vmem S1024x2560 .bf16) (harg12 : arg12.IsWhole) (arg13 : Memref sig .tc .vmem S20x8x128 .i32) (harg13 : arg13.IsWhole) (hc0 : ¬cond0_0 i)
    (x0 : Vec F S6 .i32) (x1 : Vec F S5 .f32) (x2 : Vec F S5 .i32) (x3 : Vec F S20x128 .i32) (x4 : Vec F S1024x2560 .bf16) (x5 : Vec F S256x1280 .i8) (x6 : Vec F S256x5 .f32) (x7 : Vec F S256x5 .i8) (xs2 : Vec F S20x8x128 .i32) : Vec F S20x8x128 .i32 := xs2

/-! ## What the outputs hold after each point -/

/-- What the array of clusters holds after the body at position `n`: what the first point stores, kept by every later one. -/
def outsAt0 (c : Dev nD) : (n : ℕ) → n < cfg0.N → Vec F S20x8x128 .i32
  | 0, hn => sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 27 = 0 then
      sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))

/-- `outsAt0` at the first point. -/
theorem outsAt0_A (c : Dev nD) (t : Fin cfg0.N) (h0 : t.val % 27 = 0) :
    outsAt0 m c t.val t.isLt = sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans rfl

/-- `outsAt0` at a later point, over what the point before left. -/
theorem outsAt0_B (c : Dev nD) (t : Fin cfg0.N) (h0 : ¬t.val % 27 = 0) :
    outsAt0 m c t.val t.isLt = sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The invariant before position `n`: at the start every scratch holds anything; afterwards the array of clusters holds what
    the point before left, and the others anything. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((outsAt0 m c (n - 1) (by omega)))) ∗ (∃ r, prngReg c r)) := by
  cases n with
  | zero => exact absurd rfl hz
  | succ n => rfl

/-! ## The pipeline's proof data -/

/-- The two output windows, of whose contents the frame says nothing. -/
def forgets0 : Fin 10 → Bool := fun w => w.val == 8 || w.val == 9

/-- The proof data of the one pipeline on core `c`: the arrays as the region finds them, each input's buffer at its block after
    every point, nothing named of the outputs, and the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ t := PhiS m c t.val (Nat.le_of_lt_succ t.isLt)
  q _ := fullShare
  owed _ := 0

/-- The proof data's arrays are the arrays as the region finds them. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d))

set_option maxHeartbeats 9600000 in
/-- The body at any point: the inputs' buffers hold their blocks, the branch condition says which of the two cases the point
    is in, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 27 := lt_of_lt_of_eq t.isLt (show cfg0.N = 27 from N_0)
  by_cases h0 : t.val % 27 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    by_cases hz : t.val = 0
    · rw [PhiS_castSucc m c t, PhiS_zero m c _ _ hz, PhiA0_eq]
      rw [outsAt0_A m c t h0]
      unfold sout0_A_2
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((bodyRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      iintro ⟨H0, H1, H2, H3, H4, H5, H6, H7, H8, H9, HS0, HS1, ⟨%es2, HS2⟩⟩
      isplitl [HS0 HS1 HS2 Hg]
      · isplitl [HS0 HS1 HS2]
        · isplitl [HS0]
          · iexact HS0
          isplitl [HS1]
          · iexact HS1
          unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · exfalso; have hN : t.val < 27 := lt_of_lt_of_eq t.isLt (show cfg0.N = 27 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    by_cases hz : t.val = 0
    · exfalso; have hN : t.val < 27 := lt_of_lt_of_eq t.isLt (show cfg0.N = 27 from N_0); omega
    · rw [PhiS_castSucc m c t, PhiS_pos m c _ _ hz]
      rw [outsAt0_B m c t h0]
      unfold sout0_B_2
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((bodyRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      iintro ⟨H0, H1, H2, H3, H4, H5, H6, H7, H8, H9, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 27 := N_0; omega)

/-! ## The run and the frame -/

-- `θ_run_frame_track_forget`'s implicit arguments are found by unifying its conclusion with this one, which takes unfolding plain
-- definitions in a metavariable's type
set_option backward.isDefEq.respectTransparency.types false in
/-- Every run terminates with the arrays as the proof data says and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- For any values, from any memory with zero counters: every run terminates, with every input array of the pipeline unchanged,
    nothing stated of the two outputs, and every other unscoped buffer as the region found it. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_forget m ρ (fun c => (dats m 0 c).toRForget forgets0) (A_eq m) (run_main m ρ)

/-- The frame: every run terminates, leaves the arguments unchanged and every semaphore counter at zero. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Own

end
-- ==== Proof.Ideal.Shapes.lean ====
/- The vectors the kernel computes while it quantises a block of activations, as functions of the lane tables and of the
   loaded rows, for any float type. -/
module

public import proofs.«01_k».proof.Proof.Gen.KernelIdeal.Loops

@[expose] public section

set_option maxRecDepth 16384

noncomputable section

namespace Cert.KernelIdeal.Own

open Cert.KernelIdeal Cert.KernelIdeal.Gen
open Idealize.ShloMosaic Idealize.SL.Sem

variable {F : FTy → Type} [FloatOps F]

/-- The offsets of the 16 rows `32 k + u` on and of the column `n`, as the kernel computes them. -/
def offC (k : Nat) (u : BitVec 32) (n : Nat) : Fin 2 → Nat :=
  ![(Scalar.indexCast (Scalar.addi (Scalar.muli (Scf.iv 0#32 1#32 k) 32#32) u) : Index).toNat, n]

/-- The two row offsets in a block of 32 rows. -/
abbrev uOf (r : Fin 2) : BitVec 32 := BitVec.ofNat 32 (16 * r.val)

theorem offC_eq (k : Fin 32) (r : Fin 2) (n : Nat) : offC k (uOf r) n = ![32 * k.val + 16 * r.val, n] := by
  have h : ∀ k : Fin 32, ∀ r : Fin 2,
      (Scalar.indexCast (Scalar.addi (Scalar.muli (Scf.iv 0#32 1#32 k.val) 32#32) (uOf r)) : Index).toNat
        = 32 * k.val + 16 * r.val := by decide +kernel
  unfold offC; rw [h]

theorem offC_inb (k : Fin 32) (r : Fin 2) (n : Fin 20) :
    ∀ a, offC k (uOf r) (128 * n.val) a + S16x128.size a ≤ S1024x2560.size a := by
  rw [offC_eq]; intro a
  match a with
  | ⟨0, _⟩ => show 32 * k.val + 16 * r.val + 16 ≤ 1024; omega
  | ⟨1, _⟩ => show 128 * n.val + 128 ≤ 2560; omega

/-- The rectangle of 16 rows and 128 columns there. -/
abbrev rectC (k : Fin 32) (r : Fin 2) (n : Fin 20) : Rect S1024x2560 :=
  Rect.unit (s := S1024x2560) (offC k (uOf r) (128 * n.val)) S16x128.size (offC_inb k r n)

/-- The rows loaded from an array of activations. -/
abbrev ldC (v : View sig .tc .vmem S1024x2560 .bf16) (X : BufTy.Contents (Elt F) v.ty) (k : Fin 32) (r : Fin 2) (n : Fin 20) :
    Vec F S16x128 .bf16 :=
  v.readAt (Elt F) (rectC k r n).toLoadRect X

/-- A table of 8 rows, twice. -/
def cat2 {α : Type} (x : S8x128.Idx → α) : S16x128.Idx → α :=
  concatenate S16x128 0 [⟨S8x128, x⟩, ⟨S8x128, x⟩] concatenates_S8x128_S8x128_S16x128_d0

/-- One step of the gather: where the tile number is `n`, take the lanes of tile `n`. -/
def gstep (lo hi : IVec S8x128 32) (n : BitVec 32) (v : Vec F S16x128 .bf16) (acc : FVec F S16x128 .f32) : FVec F S16x128 .f32 :=
  select (cmpi .eq (cat2 hi) (broadcast S16x128 n))
    (dynamicGather 1 (extf .f32 (shapeCast S16x128 v shapeCasts_S16x128_S16x128) bitsLt_bf16_f32)
      (shapeCast S16x128 (shapeCast S16x128x1 (cat2 lo) shapeCasts_S16x128_S16x128x1) shapeCasts_S16x128x1_S16x128)) acc

/-- The gather over the twenty tiles. -/
def gath (lo hi : IVec S8x128 32) (v : Fin 20 → Vec F S16x128 .bf16) : FVec F S16x128 .f32 :=
  gstep lo hi 19#32 (v 19) <| gstep lo hi 18#32 (v 18) <| gstep lo hi 17#32 (v 17) <| gstep lo hi 16#32 (v 16) <|
  gstep lo hi 15#32 (v 15) <| gstep lo hi 14#32 (v 14) <| gstep lo hi 13#32 (v 13) <| gstep lo hi 12#32 (v 12) <|
  gstep lo hi 11#32 (v 11) <| gstep lo hi 10#32 (v 10) <| gstep lo hi 9#32 (v 9) <| gstep lo hi 8#32 (v 8) <|
  gstep lo hi 7#32 (v 7) <| gstep lo hi 6#32 (v 6) <| gstep lo hi 5#32 (v 5) <| gstep lo hi 4#32 (v 4) <|
  gstep lo hi 3#32 (v 3) <| gstep lo hi 2#32 (v 2) <| gstep lo hi 1#32 (v 1) <| gstep lo hi 0#32 (v 0) <|
  broadcast S16x128 (Scalar.ofBits .f32 0x00000000#32)

/-- The quantised rows, in f32. -/
def qvec (lo hi : IVec S8x128 32) (s z : FVec F S8x128 .f32) (v : Fin 20 → Vec F S16x128 .bf16) : FVec F S16x128 .f32 :=
  minimumf (broadcast S16x128 (Scalar.sitofp .f32 127#32))
    (maximumf (broadcast S16x128 (Scalar.sitofp .f32 4294967168#32))
      (addf (roundeven (divf (gath lo hi v) (cat2 s))) (cat2 z)))

/-- The codes as stored. -/
def qpay (lo hi : IVec S8x128 32) (s z : FVec F S8x128 .f32) (v : Fin 20 → Vec F S16x128 .bf16) : FVec F S16x128 .bf16 :=
  shapeCast S16x128 (truncf .bf16 (qvec lo hi s z v) bitsLt_bf16_f32) shapeCasts_S16x128_S16x128

/-- The dequantised rows as stored. -/
def dpay (lo hi : IVec S8x128 32) (s z s16 : FVec F S8x128 .f32) (v : Fin 20 → Vec F S16x128 .bf16) : FVec F S16x128 .bf16 :=
  shapeCast S16x128 (truncf .bf16 (mulf (subf (qvec lo hi s z v) (cat2 z)) (cat2 s16)) bitsLt_bf16_f32)
    shapeCasts_S16x128_S16x128

/-- What one trip of a quantising loop stores: the dequantised rows, at column tile `n`. -/
def dtrip (v : View sig .tc .vmem S1024x2560 .bf16) (X : BufTy.Contents (Elt F) v.ty) (lo hi : IVec S8x128 32)
    (s z s16 : FVec F S8x128 .f32) (n : Fin 20) (k : Fin 32) : List (View.Piece (Elt F) S1024x2560 .bf16) :=
  [⟨rectC k 1 n, dpay lo hi s z s16 (ldC v X k 1)⟩, ⟨rectC k 0 n, dpay lo hi s z s16 (ldC v X k 0)⟩]

/-- What one trip of a quantising loop stores: the codes, at column tile `n`. -/
def qtrip (v : View sig .tc .vmem S1024x2560 .bf16) (X : BufTy.Contents (Elt F) v.ty) (lo hi : IVec S8x128 32)
    (s z : FVec F S8x128 .f32) (n : Fin 20) (k : Fin 32) : List (View.Piece (Elt F) S1024x2560 .bf16) :=
  [⟨rectC k 1 n, qpay lo hi s z (ldC v X k 1)⟩, ⟨rectC k 0 n, qpay lo hi s z (ldC v X k 0)⟩]

end Cert.KernelIdeal.Own
-- ==== Proof.Ideal.Trips.lean ====
/- Each trip of each of the twenty quantising loops stores the blocks `Shapes` names: the loop's own text unfolds to them. -/
module

public import proofs.«01_k».proof.Proof.Ideal.Shapes
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic Idealize.SL.Sem

variable {F : FTy → Type} [FloatOps F]

variable (𝒱 : Variants) (c : Dev nD) (bd : Option 𝒱.V) (i : grid0.Coords)
  (arg1 : Memref sig .tc .smem S6 .i32) (harg1 : arg1.IsWhole) (arg2 : Memref sig .tc .smem S5 .f32) (harg2 : arg2.IsWhole)
  (arg3 : Memref sig .tc .smem S5 .i32) (harg3 : arg3.IsWhole) (arg4 : Memref sig .tc .vmem S20x128 .i32) (harg4 : arg4.IsWhole)
  (arg5 : Memref sig .tc .vmem S1024x2560 .bf16) (harg5 : arg5.IsWhole) (arg6 : Memref sig .tc .vmem S256x1280 .i8) (harg6 : arg6.IsWhole)
  (arg7 : Memref sig .tc .vmem S256x5 .f32) (harg7 : arg7.IsWhole) (arg8 : Memref sig .tc .vmem S256x5 .i8) (harg8 : arg8.IsWhole)
  (arg9 : Memref sig .tc .vmem S1024x256 .bf16) (harg9 : arg9.IsWhole) (arg10 : Memref sig .tc .vmem S1024x2560 .i8) (harg10 : arg10.IsWhole)
  (arg11 : Memref sig .tc .vmem S1024x2560 .bf16) (harg11 : arg11.IsWhole) (arg12 : Memref sig .tc .vmem S1024x2560 .bf16) (harg12 : arg12.IsWhole)
  (arg13 : Memref sig .tc .vmem S20x8x128 .i32) (harg13 : arg13.IsWhole)
  (k0_h1 : k0_cond1 i = 1#1) (v0 a b lo hi cid : IVec S8x128 32) (s z s16 p : FVec F S8x128 .f32) (w : BitVec 32)
  (s2 s3 s4 : Elt F .f32) (z0 z1 z2 z3 z4 : Elt F .i32) (X : BufTy.Contents (Elt F) arg5.view.ty)

theorem trip_eq_1 (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X k
      = (dtrip arg5.view X lo hi s z s16 0 k,
         qtrip arg5.view X lo hi s z 0 k) := by
  unfold tripL_k0_t1 trip_k0_t1; rfl

theorem trip_eq_2 (k : Fin k0_t2_loop.trips) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X k
      = (dtrip arg5.view X lo hi (k0_pay611 cid p w s2 s3 s4) (k0_pay612 cid z0 z1 z2 z3 z4) (k0_pay613 cid p w s2 s3 s4) 10 k,
         qtrip arg5.view X lo hi (k0_pay611 cid p w s2 s3 s4) (k0_pay612 cid z0 z1 z2 z3 z4) 10 k) := by
  unfold tripL_k0_t2 trip_k0_t2; rfl

theorem trip_eq_3 (k : Fin k0_t3_loop.trips) :
    tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X k
      = (dtrip arg5.view X lo hi s z s16 1 k,
         qtrip arg5.view X lo hi s z 1 k) := by
  unfold tripL_k0_t3 trip_k0_t3; rfl

theorem trip_eq_4 (k : Fin k0_t4_loop.trips) :
    tripL_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X k
      = (dtrip arg5.view X lo hi (k0_pay611 cid p w s2 s3 s4) (k0_pay612 cid z0 z1 z2 z3 z4) (k0_pay613 cid p w s2 s3 s4) 11 k,
         qtrip arg5.view X lo hi (k0_pay611 cid p w s2 s3 s4) (k0_pay612 cid z0 z1 z2 z3 z4) 11 k) := by
  unfold tripL_k0_t4 trip_k0_t4; rfl

theorem trip_eq_5 (k : Fin k0_t5_loop.trips) :
    tripL_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X k
      = (dtrip arg5.view X lo hi s z s16 2 k,
         qtrip arg5.view X lo hi s z 2 k) := by
  unfold tripL_k0_t5 trip_k0_t5; rfl

theorem trip_eq_6 (k : Fin k0_t6_loop.trips) :
    tripL_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X k
      = (dtrip arg5.view X lo hi (k0_pay611 cid p w s2 s3 s4) (k0_pay612 cid z0 z1 z2 z3 z4) (k0_pay613 cid p w s2 s3 s4) 12 k,
         qtrip arg5.view X lo hi (k0_pay611 cid p w s2 s3 s4) (k0_pay612 cid z0 z1 z2 z3 z4) 12 k) := by
  unfold tripL_k0_t6 trip_k0_t6; rfl

theorem trip_eq_7 (k : Fin k0_t7_loop.trips) :
    tripL_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X k
      = (dtrip arg5.view X lo hi s z s16 3 k,
         qtrip arg5.view X lo hi s z 3 k) := by
  unfold tripL_k0_t7 trip_k0_t7; rfl

theorem trip_eq_8 (k : Fin k0_t8_loop.trips) :
    tripL_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X k
      = (dtrip arg5.view X lo hi (k0_pay611 cid p w s2 s3 s4) (k0_pay612 cid z0 z1 z2 z3 z4) (k0_pay613 cid p w s2 s3 s4) 13 k,
         qtrip arg5.view X lo hi (k0_pay611 cid p w s2 s3 s4) (k0_pay612 cid z0 z1 z2 z3 z4) 13 k) := by
  unfold tripL_k0_t8 trip_k0_t8; rfl

theorem trip_eq_9 (k : Fin k0_t9_loop.trips) :
    tripL_k0_t9 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X k
      = (dtrip arg5.view X lo hi s z s16 4 k,
         qtrip arg5.view X lo hi s z 4 k) := by
  unfold tripL_k0_t9 trip_k0_t9; rfl

theorem trip_eq_10 (k : Fin k0_t10_loop.trips) :
    tripL_k0_t10 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X k
      = (dtrip arg5.view X lo hi (k0_pay611 cid p w s2 s3 s4) (k0_pay612 cid z0 z1 z2 z3 z4) (k0_pay613 cid p w s2 s3 s4) 14 k,
         qtrip arg5.view X lo hi (k0_pay611 cid p w s2 s3 s4) (k0_pay612 cid z0 z1 z2 z3 z4) 14 k) := by
  unfold tripL_k0_t10 trip_k0_t10; rfl

theorem trip_eq_11 (k : Fin k0_t11_loop.trips) :
    tripL_k0_t11 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X k
      = (dtrip arg5.view X lo hi s z s16 5 k,
         qtrip arg5.view X lo hi s z 5 k) := by
  unfold tripL_k0_t11 trip_k0_t11; rfl

theorem trip_eq_12 (k : Fin k0_t12_loop.trips) :
    tripL_k0_t12 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X k
      = (dtrip arg5.view X lo hi (k0_pay611 cid p w s2 s3 s4) (k0_pay612 cid z0 z1 z2 z3 z4) (k0_pay613 cid p w s2 s3 s4) 15 k,
         qtrip arg5.view X lo hi (k0_pay611 cid p w s2 s3 s4) (k0_pay612 cid z0 z1 z2 z3 z4) 15 k) := by
  unfold tripL_k0_t12 trip_k0_t12; rfl

theorem trip_eq_13 (k : Fin k0_t13_loop.trips) :
    tripL_k0_t13 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X k
      = (dtrip arg5.view X lo hi s z s16 6 k,
         qtrip arg5.view X lo hi s z 6 k) := by
  unfold tripL_k0_t13 trip_k0_t13; rfl

theorem trip_eq_14 (k : Fin k0_t14_loop.trips) :
    tripL_k0_t14 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X k
      = (dtrip arg5.view X lo hi (k0_pay611 cid p w s2 s3 s4) (k0_pay612 cid z0 z1 z2 z3 z4) (k0_pay613 cid p w s2 s3 s4) 16 k,
         qtrip arg5.view X lo hi (k0_pay611 cid p w s2 s3 s4) (k0_pay612 cid z0 z1 z2 z3 z4) 16 k) := by
  unfold tripL_k0_t14 trip_k0_t14; rfl

theorem trip_eq_15 (k : Fin k0_t15_loop.trips) :
    tripL_k0_t15 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X k
      = (dtrip arg5.view X lo hi s z s16 7 k,
         qtrip arg5.view X lo hi s z 7 k) := by
  unfold tripL_k0_t15 trip_k0_t15; rfl

theorem trip_eq_16 (k : Fin k0_t16_loop.trips) :
    tripL_k0_t16 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X k
      = (dtrip arg5.view X lo hi (k0_pay611 cid p w s2 s3 s4) (k0_pay612 cid z0 z1 z2 z3 z4) (k0_pay613 cid p w s2 s3 s4) 17 k,
         qtrip arg5.view X lo hi (k0_pay611 cid p w s2 s3 s4) (k0_pay612 cid z0 z1 z2 z3 z4) 17 k) := by
  unfold tripL_k0_t16 trip_k0_t16; rfl

theorem trip_eq_17 (k : Fin k0_t17_loop.trips) :
    tripL_k0_t17 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X k
      = (dtrip arg5.view X lo hi s z s16 8 k,
         qtrip arg5.view X lo hi s z 8 k) := by
  unfold tripL_k0_t17 trip_k0_t17; rfl

theorem trip_eq_18 (k : Fin k0_t18_loop.trips) :
    tripL_k0_t18 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X k
      = (dtrip arg5.view X lo hi (k0_pay611 cid p w s2 s3 s4) (k0_pay612 cid z0 z1 z2 z3 z4) (k0_pay613 cid p w s2 s3 s4) 18 k,
         qtrip arg5.view X lo hi (k0_pay611 cid p w s2 s3 s4) (k0_pay612 cid z0 z1 z2 z3 z4) 18 k) := by
  unfold tripL_k0_t18 trip_k0_t18; rfl

theorem trip_eq_19 (k : Fin k0_t19_loop.trips) :
    tripL_k0_t19 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X k
      = (dtrip arg5.view X lo hi s z s16 9 k,
         qtrip arg5.view X lo hi s z 9 k) := by
  unfold tripL_k0_t19 trip_k0_t19; rfl

theorem trip_eq_20 (k : Fin k0_t20_loop.trips) :
    tripL_k0_t20 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X k
      = (dtrip arg5.view X lo hi (k0_pay611 cid p w s2 s3 s4) (k0_pay612 cid z0 z1 z2 z3 z4) (k0_pay613 cid p w s2 s3 s4) 19 k,
         qtrip arg5.view X lo hi (k0_pay611 cid p w s2 s3 s4) (k0_pay612 cid z0 z1 z2 z3 z4) 19 k) := by
  unfold tripL_k0_t20 trip_k0_t20; rfl

end Cert.KernelIdeal.Own
-- ==== Proof.Ideal.Lanes.lean ====
/- The lane tables of one tile of 128 permuted channels, as the kernel computes them from its tables, and each read at a
   lane. -/
module

public import proofs.«01_k».proof.Proof.Ideal.Shapes
public import Idealize.ShloMosaic.Lib.Pipeline.ValueKit
public import Idealize.ShloMosaic.Lib.ValueLayout

@[expose] public section

set_option maxRecDepth 16384

noncomputable section

namespace Cert.KernelIdeal.Own

open Cert.KernelIdeal Cert.KernelIdeal.Gen
open Idealize.ShloMosaic hiding ix1 ix2 ix3 eq_ix1 eq_ix2 eq_ix3
open Idealize.SL.Sem
open Idealize.ShloMosaic.ValueIdx

variable {F : FTy → Type} [FloatOps F]

/-! ## The scalar functions -/

/-- The channel that lane `l` of column tile `n` holds: the even channels come first. -/
def chan (n : Fin 20) (l : Fin 128) : Fin 2560 :=
  ⟨2 * (128 * (n.val % 10) + l.val) + n.val / 10, by omega⟩

/-- The entry of the permutation for a channel, the permutation laid out in rows of 128. -/
def permW (P : IVec S20x128 32) (ch : Fin 2560) : BitVec 32 :=
  P (ix2 (⟨ch.val / 128, by omega⟩ : Fin 20) (⟨ch.val % 128, by omega⟩ : Fin 128))

def loS (w : BitVec 32) : BitVec 32 := IntOp.andi w 127#32
def hiS (w : BitVec 32) : BitVec 32 := IntOp.shrsi .vector w 7#32

/-- One where a bound is at most the channel. -/
def geS (p b : BitVec 32) : BitVec 32 := Scalar.select (IntOp.cmpi .sge p b) 1#32 0#32

/-- The cluster of a channel: the number of bounds at most it, less one. -/
def cidS (p b0 b1 b2 b3 b4 b5 : BitVec 32) : BitVec 32 :=
  IntOp.addi (IntOp.addi (IntOp.addi (IntOp.addi (IntOp.addi (IntOp.addi 4294967295#32 (geS p b0)) (geS p b1)) (geS p b2))
    (geS p b3)) (geS p b4)) (geS p b5)

/-- The entry of a table of five for a cluster. -/
def pickS {α : Type} (c : BitVec 32) (a0 a1 a2 a3 a4 : α) : α :=
  Scalar.select (IntOp.cmpi .eq c 4#32) a4 (Scalar.select (IntOp.cmpi .eq c 3#32) a3
    (Scalar.select (IntOp.cmpi .eq c 2#32) a2 (Scalar.select (IntOp.cmpi .eq c 1#32) a1 a0)))

/-- The cluster of a channel from the array of bounds. -/
def cidW (B : IVec S6 32) (ch : Fin 2560) : BitVec 32 :=
  cidS (BitVec.ofNat 32 ch.val) (B (ix1 0)) (B (ix1 1)) (B (ix1 2)) (B (ix1 3)) (B (ix1 4)) (B (ix1 5))

/-- The scale of a channel. -/
def sW (B : IVec S6 32) (S : FVec F S5 .f32) (ch : Fin 2560) : F .f32 :=
  pickS (cidW B ch) (S (ix1 0)) (S (ix1 1)) (S (ix1 2)) (S (ix1 3)) (S (ix1 4))

/-- The zero point of a channel. -/
def zW (B : IVec S6 32) (Z : IVec S5 32) (ch : Fin 2560) : F .f32 :=
  FloatOps.sitofp .f32 (pickS (cidW B ch) (Z (ix1 0)) (Z (ix1 1)) (Z (ix1 2)) (Z (ix1 3)) (Z (ix1 4)))

/-- The scale of a channel, rounded to bf16. -/
def s16W (B : IVec S6 32) (S : FVec F S5 .f32) (ch : Fin 2560) : F .f32 :=
  FloatOps.extf .f32 bitsLt_bf16_f32 (FloatOps.truncf .bf16 bitsLt_bf16_f32 (sW B S ch))

/-! ## The tables -/

/-- The number of each lane. -/
abbrev laneV : IVec S8x128 32 := iota .tc S8x128 32 [1] iota_S8x128_d1_w32

def rowV (w : IVec S1x128 32) : IVec S8x128 32 :=
  broadcastTo S8x128 (shapeCast S1x128 (shapeCast S1x128 w shapeCasts_S1x128_S1x128) shapeCasts_S1x128_S1x128)
    broadcasts_S1x128_S8x128

def selV (v0 : IVec S8x128 32) (par : BitVec 32) : IVec S8x128 32 :=
  shapeCast S8x128 (shapeCast S8x128x1
    (andi (addi (muli (broadcast S8x128 2#32) v0) (broadcast S8x128 par)) (broadcast S8x128 127#32))
    shapeCasts_S8x128_S8x128x1) shapeCasts_S8x128x1_S8x128

/-- The entries of the permutation for the lanes. -/
def srcV (v0 r0 r1 : IVec S8x128 32) (par : BitVec 32) : IVec S8x128 32 :=
  select (cmpi .slt v0 (broadcast S8x128 64#32)) (dynamicGather 1 r0 (selV v0 par)) (dynamicGather 1 r1 (selV v0 par))

def loV (v0 r0 r1 : IVec S8x128 32) (par : BitVec 32) : IVec S8x128 32 := andi (srcV v0 r0 r1 par) (broadcast S8x128 127#32)
def hiV (v0 r0 r1 : IVec S8x128 32) (par : BitVec 32) : IVec S8x128 32 := shrsi (srcV v0 r0 r1 par) (broadcast S8x128 7#32)

/-- The channels of the lanes, `a` the first half channel of the tile. -/
def posV (v0 : IVec S8x128 32) (a par : BitVec 32) : IVec S8x128 32 :=
  addi (muli (broadcast S8x128 2#32) (addi (broadcast S8x128 a) v0)) (broadcast S8x128 par)

def geV (p : IVec S8x128 32) (b : BitVec 32) : IVec S8x128 32 :=
  select (cmpi .sge p (broadcast S8x128 b)) (broadcast S8x128 1#32) (broadcast S8x128 0#32)

/-- The clusters of the lanes. -/
def cidV (p : IVec S8x128 32) (b0 b1 b2 b3 b4 b5 : BitVec 32) : IVec S8x128 32 :=
  addi (addi (addi (addi (addi (addi (broadcast S8x128 4294967295#32) (geV p b0)) (geV p b1)) (geV p b2)) (geV p b3))
    (geV p b4)) (geV p b5)

def pickV {α : Type} (c : IVec S8x128 32) (a0 a1 a2 a3 a4 : α) : S8x128.Idx → α :=
  select (cmpi .eq c (broadcast S8x128 4#32)) (broadcast S8x128 a4)
    (select (cmpi .eq c (broadcast S8x128 3#32)) (broadcast S8x128 a3)
      (select (cmpi .eq c (broadcast S8x128 2#32)) (broadcast S8x128 a2)
        (select (cmpi .eq c (broadcast S8x128 1#32)) (broadcast S8x128 a1) (broadcast S8x128 a0))))

def zV (c : IVec S8x128 32) (z0 z1 z2 z3 z4 : BitVec 32) : FVec F S8x128 .f32 := sitofp .f32 (pickV c z0 z1 z2 z3 z4)
def s16V (s : FVec F S8x128 .f32) : FVec F S8x128 .f32 := extf .f32 (truncf .bf16 s bitsLt_bf16_f32) bitsLt_bf16_f32

/-! ## The tables read at a lane -/

/-- The tables of column tile `n` hold what the channels of the tile ask for. -/
structure Chan (B : IVec S6 32) (S : FVec F S5 .f32) (Z : IVec S5 32) (P : IVec S20x128 32) (n : Fin 20)
    (lo hi : IVec S8x128 32) (s z s16 : FVec F S8x128 .f32) : Prop where
  lo : ∀ (a : Fin 8) (l : Fin 128), lo (ix2 a l) = loS (permW P (chan n l))
  hi : ∀ (a : Fin 8) (l : Fin 128), hi (ix2 a l) = hiS (permW P (chan n l))
  s : ∀ (a : Fin 8) (l : Fin 128), s (ix2 a l) = sW B S (chan n l)
  z : ∀ (a : Fin 8) (l : Fin 128), z (ix2 a l) = zW B Z (chan n l)
  s16 : ∀ (a : Fin 8) (l : Fin 128), s16 (ix2 a l) = s16W B S (chan n l)

theorem laneV_apply (a : Fin 8) (l : Fin 128) : laneV (ix2 a l) = BitVec.ofNat 32 l.val := by
  show BitVec.ofNat 32 (0 * 128 + l.val) = _
  rw [Nat.zero_mul, Nat.zero_add]

theorem rowV_apply (w : IVec S1x128 32) (a : Fin 8) (l : Fin 128) : rowV w (ix2 a l) = w (ix2 (0 : Fin 1) l) := by
  unfold rowV
  rw [shapeCast_self, shapeCast_self]
  exact broadcastTo_1b_ab_apply w broadcasts_S1x128_S8x128 a l

theorem posV_apply (n : Fin 20) (a : Fin 8) (l : Fin 128) :
    posV laneV (BitVec.ofNat 32 (128 * (n.val % 10))) (BitVec.ofNat 32 (n.val / 10)) (ix2 a l)
      = BitVec.ofNat 32 (chan n l).val := by
  show 2#32 * (BitVec.ofNat 32 (128 * (n.val % 10)) + laneV (ix2 a l)) + BitVec.ofNat 32 (n.val / 10) = _
  rw [laneV_apply, ← BitVec.ofNat_add, ← BitVec.ofNat_mul, ← BitVec.ofNat_add]
  rfl

theorem selV_toNat (p : Fin 2) (a : Fin 8) (l : Fin 128) :
    (selV laneV (BitVec.ofNat 32 p.val) (ix2 a l)).toNat % 128 = (2 * l.val + p.val) % 128 := by
  unfold selV
  rw [shapeCast_shapeCast]
  show ((2#32 * laneV (ix2 a l) + BitVec.ofNat 32 p.val) &&& 127#32).toNat % 128 = _
  rw [laneV_apply]
  revert p l
  decide +kernel

theorem lane_slt (l : Fin 128) : IntOp.cmpi .slt (BitVec.ofNat 32 l.val) 64#32 = BitVec.ofBool (decide (l.val < 64)) := by
  revert l; decide +kernel

/-- The permutation's entries for the lanes, from the two rows of the permutation that hold them. -/
theorem srcV_apply (P : IVec S20x128 32) (n : Fin 20) (w0 w1 : IVec S1x128 32)
    (h0 : ∀ l : Fin 128, w0 (ix2 (0 : Fin 1) l) = P (ix2 (⟨2 * (n.val % 10), by omega⟩ : Fin 20) l))
    (h1 : ∀ l : Fin 128, w1 (ix2 (0 : Fin 1) l) = P (ix2 (⟨2 * (n.val % 10) + 1, by omega⟩ : Fin 20) l))
    (a : Fin 8) (l : Fin 128) :
    srcV laneV (rowV w0) (rowV w1) (BitVec.ofNat 32 (n.val / 10)) (ix2 a l) = permW P (chan n l) := by
  have hg : ∀ w : IVec S1x128 32, dynamicGather 1 (rowV w) (selV laneV (BitVec.ofNat 32 (n.val / 10))) (ix2 a l)
      = w (ix2 (0 : Fin 1) (⟨(2 * l.val + n.val / 10) % 128, by omega⟩ : Fin 128)) := by
    intro w
    rw [← rowV_apply w a]
    show rowV w _ = rowV w _
    refine congrArg (rowV w) (funext fun b => ?_)
    match b with
    | ⟨0, _⟩ => rfl
    | ⟨1, _⟩ => exact Fin.ext (selV_toNat ⟨n.val / 10, by omega⟩ a l)
  show Scalar.select (IntOp.cmpi .slt (laneV (ix2 a l)) 64#32) _ _ = _
  rw [hg, hg, laneV_apply, lane_slt, h0, h1]
  unfold permW chan Scalar.select
  by_cases hl : l.val < 64
  · rw [if_pos (by simp [hl])]
    congr 2 <;> exact Fin.ext (by simp only []; omega)
  · rw [if_neg (by simp [hl])]
    congr 2 <;> exact Fin.ext (by simp only []; omega)

/-- The clusters of the lanes. -/
theorem cidV_apply (B : IVec S6 32) (n : Fin 20) (a : Fin 8) (l : Fin 128) :
    cidV (posV laneV (BitVec.ofNat 32 (128 * (n.val % 10))) (BitVec.ofNat 32 (n.val / 10))) (B (ix1 0)) (B (ix1 1)) (B (ix1 2))
      (B (ix1 3)) (B (ix1 4)) (B (ix1 5)) (ix2 a l) = cidW B (chan n l) := by
  unfold cidW
  rw [← posV_apply n a l]
  rfl

/-- The tables the kernel computes for a tile are the ones `Chan` asks for. -/
theorem chan_mk (B : IVec S6 32) (S : FVec F S5 .f32) (Z : IVec S5 32) (P : IVec S20x128 32) (n : Fin 20) (w0 w1 : IVec S1x128 32)
    (h0 : ∀ l : Fin 128, w0 (ix2 (0 : Fin 1) l) = P (ix2 (⟨2 * (n.val % 10), by omega⟩ : Fin 20) l))
    (h1 : ∀ l : Fin 128, w1 (ix2 (0 : Fin 1) l) = P (ix2 (⟨2 * (n.val % 10) + 1, by omega⟩ : Fin 20) l))
    (c : IVec S8x128 32) (hc : ∀ (a : Fin 8) (l : Fin 128), c (ix2 a l) = cidW B (chan n l)) :
    Chan B S Z P n (loV laneV (rowV w0) (rowV w1) (BitVec.ofNat 32 (n.val / 10)))
      (hiV laneV (rowV w0) (rowV w1) (BitVec.ofNat 32 (n.val / 10)))
      (pickV c (S (ix1 0)) (S (ix1 1)) (S (ix1 2)) (S (ix1 3)) (S (ix1 4)))
      (zV c (Z (ix1 0)) (Z (ix1 1)) (Z (ix1 2)) (Z (ix1 3)) (Z (ix1 4)))
      (s16V (pickV c (S (ix1 0)) (S (ix1 1)) (S (ix1 2)) (S (ix1 3)) (S (ix1 4)))) where
  lo a l := by rw [← srcV_apply P n w0 w1 h0 h1 a l]; rfl
  hi a l := by rw [← srcV_apply P n w0 w1 h0 h1 a l]; rfl
  s a l := by unfold sW; rw [← hc a l]; rfl
  z a l := by unfold zW; rw [← hc a l]; rfl
  s16 a l := by unfold s16W sW; rw [← hc a l]; rfl

end Cert.KernelIdeal.Own
-- ==== Proof.Ideal.Block.lean ====
/- What the quantising loops leave: the target contents of the two arrays of activations, and that each loop writes its own
   column tile of them. -/
module

public import proofs.«01_k».proof.Proof.Ideal.Lanes
public import Idealize.ShloMosaic.Lib.VecWindow
public import Idealize.ShloMosaic.Lib.Writes

@[expose] public section

set_option maxRecDepth 16384

noncomputable section

namespace Cert.KernelIdeal.Own

open Cert.KernelIdeal Cert.KernelIdeal.Gen
open Idealize.ShloMosaic hiding ix1 ix2 ix3 eq_ix1 eq_ix2 eq_ix3
open Idealize.SL.Sem
open Idealize.ShloMosaic.ValueIdx

variable {F : FTy → Type} [FloatOps F]

/-! ## The targets -/

/-- One step of the choice of a source tile. -/
def selStep (w n : BitVec 32) (row : Fin 128 → F .f32) (acc : F .f32) : F .f32 :=
  Scalar.select (IntOp.cmpi .eq (hiS w) n) (row ⟨(loS w).toNat % 128, Nat.mod_lt _ (by decide)⟩) acc

/-- The entry of a row of twenty tiles that a word names by its tile and its lane; zero where it names none. -/
def selS (w : BitVec 32) (row : Fin 20 → Fin 128 → F .f32) : F .f32 :=
  selStep w 19#32 (row 19) <| selStep w 18#32 (row 18) <| selStep w 17#32 (row 17) <| selStep w 16#32 (row 16) <|
  selStep w 15#32 (row 15) <| selStep w 14#32 (row 14) <| selStep w 13#32 (row 13) <| selStep w 12#32 (row 12) <|
  selStep w 11#32 (row 11) <| selStep w 10#32 (row 10) <| selStep w 9#32 (row 9) <| selStep w 8#32 (row 8) <|
  selStep w 7#32 (row 7) <| selStep w 6#32 (row 6) <| selStep w 5#32 (row 5) <| selStep w 4#32 (row 4) <|
  selStep w 3#32 (row 3) <| selStep w 2#32 (row 2) <| selStep w 1#32 (row 1) <| selStep w 0#32 (row 0) <|
  Scalar.ofBits .f32 0x00000000#32

/-- Row `i` of the activations, tile by tile, in f32. -/
def rowX (X : Vec F S1024x2560 .bf16) (i : Fin 1024) (m : Fin 20) (l : Fin 128) : F .f32 :=
  FloatOps.extf .f32 bitsLt_bf16_f32 (X (ix2 i (⟨128 * m.val + l.val, by omega⟩ : Fin 2560)))

/-- A quantised activation from the activation, its scale and its zero point. -/
def quantS (x s z : F .f32) : F .f32 :=
  FloatOps.minimumf (Scalar.sitofp .f32 127#32) (FloatOps.maximumf (Scalar.sitofp .f32 4294967168#32)
    (FloatOps.addf (FloatOps.roundeven (FloatOps.divf x s)) z))

variable (B : IVec S6 32) (S : FVec F S5 .f32) (Z : IVec S5 32) (P : IVec S20x128 32) (X : Vec F S1024x2560 .bf16)

/-- The quantised activation of row `i` at channel `ch`. -/
def qW (i : Fin 1024) (ch : Fin 2560) : F .f32 := quantS (selS (permW P ch) (rowX X i)) (sW B S ch) (zW B Z ch)

/-- The channel in column `j`, the even channels first. -/
def colCh (j : Fin 2560) : Fin 2560 := chan ⟨j.val / 128, by omega⟩ ⟨j.val % 128, by omega⟩

/-- The codes, as the array of codes holds them. -/
def QG : Vec F S1024x2560 .bf16 := fun y => FloatOps.truncf .bf16 bitsLt_bf16_f32 (qW B S Z P X (y 0) (colCh (y 1)))

/-- The dequantised activations. -/
def DG : Vec F S1024x2560 .bf16 := fun y => FloatOps.truncf .bf16 bitsLt_bf16_f32
  (FloatOps.mulf (FloatOps.subf (qW B S Z P X (y 0) (colCh (y 1))) (zW B Z (colCh (y 1)))) (s16W B S (colCh (y 1))))

/-! ## One block -/

theorem cat2_apply {α : Type} (x : S8x128.Idx → α) (c : α) (l : Fin 128) (h : ∀ a : Fin 8, x (ix2 a l) = c) (r : Fin 16) :
    cat2 x (ix2 r l) = c := by
  unfold cat2
  by_cases hr : r.val < 8
  · rw [concatenate_pair_apply_left (t := S16x128) (s₁ := S8x128) (s₂ := S8x128) 0 x x _ (ix2 r l) rfl (ix2 (⟨r.val, hr⟩ : Fin 8) l)
      (fun b => by match b with | ⟨0, _⟩ => rfl | ⟨1, _⟩ => rfl)]
    exact h _
  · rw [concatenate_pair_apply_right (t := S16x128) (s₁ := S8x128) (s₂ := S8x128) 0 x x _ (ix2 r l) rfl rfl
      (ix2 (⟨r.val - 8, by omega⟩ : Fin 8) l)
      (fun b hb => by match b with | ⟨0, _⟩ => exact absurd rfl hb | ⟨1, _⟩ => rfl)
      (by show r.val - 8 + 8 = r.val; omega)]
    exact h _

theorem gstep_apply (lo hi : IVec S8x128 32) (n w : BitVec 32) (v : Vec F S16x128 .bf16) (acc : FVec F S16x128 .f32)
    (r : Fin 16) (l : Fin 128) (hlo : ∀ a : Fin 8, lo (ix2 a l) = loS w) (hhi : ∀ a : Fin 8, hi (ix2 a l) = hiS w)
    (row : Fin 128 → F .f32) (hv : ∀ l', FloatOps.extf .f32 bitsLt_bf16_f32 (v (ix2 r l')) = row l') :
    gstep lo hi n v acc (ix2 r l) = selStep w n row (acc (ix2 r l)) := by
  unfold gstep selStep
  rw [shapeCast_shapeCast, shapeCast_self]
  show Scalar.select (IntOp.cmpi .eq (cat2 hi (ix2 r l)) n) _ _ = _
  rw [cat2_apply hi (hiS w) l hhi]
  congr 1
  rw [← hv]
  show FloatOps.extf .f32 _ (v _) = FloatOps.extf .f32 _ (v _)
  congr 2
  funext b
  match b with
  | ⟨0, _⟩ => rfl
  | ⟨1, _⟩ =>
    refine Fin.ext ?_
    show (cat2 lo (ix2 r l)).toNat % 128 = _
    rw [cat2_apply lo (loS w) l hlo]

theorem gath_apply (lo hi : IVec S8x128 32) (w : BitVec 32) (v : Fin 20 → Vec F S16x128 .bf16) (r : Fin 16) (l : Fin 128)
    (hlo : ∀ a : Fin 8, lo (ix2 a l) = loS w) (hhi : ∀ a : Fin 8, hi (ix2 a l) = hiS w)
    (row : Fin 20 → Fin 128 → F .f32) (hv : ∀ m l', FloatOps.extf .f32 bitsLt_bf16_f32 (v m (ix2 r l')) = row m l') :
    gath lo hi v (ix2 r l) = selS w row := by
  unfold gath selS
  simp only [fun n m acc => gstep_apply lo hi n w (v m) acc r l hlo hhi (row m) (hv m)]
  rfl

variable {B S Z P X}

theorem qvec_apply {n : Fin 20} {lo hi : IVec S8x128 32} {s z s16 : FVec F S8x128 .f32} (hc : Chan B S Z P n lo hi s z s16)
    (v : Fin 20 → Vec F S16x128 .bf16) (i : Fin 1024) (r : Fin 16) (l : Fin 128)
    (hv : ∀ m l', FloatOps.extf .f32 bitsLt_bf16_f32 (v m (ix2 r l')) = rowX X i m l') :
    qvec lo hi s z v (ix2 r l) = qW B S Z P X i (chan n l) := by
  unfold qW
  rw [← gath_apply lo hi _ v r l (fun a => hc.lo a l) (fun a => hc.hi a l) _ hv, ← cat2_apply s _ l (fun a => hc.s a l) r,
    ← cat2_apply z _ l (fun a => hc.z a l) r]
  rfl

theorem colCh_tile (n : Fin 20) (l : Fin 128) : colCh (⟨128 * n.val + l.val, by omega⟩ : Fin 2560) = chan n l := by
  unfold colCh
  congr 1 <;> exact Fin.ext (by simp only []; omega)

theorem qpay_apply {n : Fin 20} {lo hi : IVec S8x128 32} {s z s16 : FVec F S8x128 .f32} (hc : Chan B S Z P n lo hi s z s16)
    (v : Fin 20 → Vec F S16x128 .bf16) (i : Fin 1024) (r : Fin 16) (l : Fin 128)
    (hv : ∀ m l', FloatOps.extf .f32 bitsLt_bf16_f32 (v m (ix2 r l')) = rowX X i m l') :
    qpay lo hi s z v (ix2 r l) = QG B S Z P X (ix2 i (⟨128 * n.val + l.val, by omega⟩ : Fin 2560)) := by
  unfold qpay
  rw [shapeCast_self]
  show FloatOps.truncf .bf16 _ (qvec lo hi s z v (ix2 r l)) = FloatOps.truncf .bf16 _ (qW B S Z P X i (colCh _))
  rw [qvec_apply hc v i r l hv, colCh_tile]

theorem dpay_apply {n : Fin 20} {lo hi : IVec S8x128 32} {s z s16 : FVec F S8x128 .f32} (hc : Chan B S Z P n lo hi s z s16)
    (v : Fin 20 → Vec F S16x128 .bf16) (i : Fin 1024) (r : Fin 16) (l : Fin 128)
    (hv : ∀ m l', FloatOps.extf .f32 bitsLt_bf16_f32 (v m (ix2 r l')) = rowX X i m l') :
    dpay lo hi s z s16 v (ix2 r l) = DG B S Z P X (ix2 i (⟨128 * n.val + l.val, by omega⟩ : Fin 2560)) := by
  unfold dpay
  rw [shapeCast_self]
  show FloatOps.truncf .bf16 _ (FloatOps.mulf (FloatOps.subf (qvec lo hi s z v (ix2 r l)) (cat2 z (ix2 r l))) (cat2 s16 (ix2 r l)))
    = FloatOps.truncf .bf16 _ (FloatOps.mulf (FloatOps.subf (qW B S Z P X i (colCh _)) (zW B Z (colCh _))) (s16W B S (colCh _)))
  rw [qvec_apply hc v i r l hv, colCh_tile, cat2_apply z _ l (fun a => hc.z a l) r, cat2_apply s16 _ l (fun a => hc.s16 a l) r]

/-! ## A load, and a loop -/

/-- The place of a block's element in the array. -/
theorem rectC_emb (k : Fin 32) (r : Fin 2) (n : Fin 20) (a : Fin 16) (l : Fin 128) :
    (rectC k r n).emb (ix2 a l) = ix2 (⟨32 * k.val + 16 * r.val + a.val, by omega⟩ : Fin 1024) (⟨128 * n.val + l.val, by omega⟩ : Fin 2560) := by
  funext b
  refine Fin.ext ?_
  show offC k (uOf r) (128 * n.val) b + 1 * ((ix2 a l : S16x128.Idx) b).val = _
  rw [offC_eq]
  match b with
  | ⟨0, _⟩ => show 32 * k.val + 16 * r.val + 1 * a.val = _; rw [Nat.one_mul]
  | ⟨1, _⟩ => show 128 * n.val + 1 * l.val = _; rw [Nat.one_mul]

theorem ldC_row {v : View sig .tc .vmem S1024x2560 .bf16} {f : BufTy.Contents (Elt F) v.ty} (hf : v.read (Elt F) f = X)
    (k : Fin 32) (r : Fin 2) (a : Fin 16) (m : Fin 20) (l : Fin 128) :
    FloatOps.extf .f32 bitsLt_bf16_f32 (ldC v f k r m (ix2 a l))
      = rowX X (⟨32 * k.val + 16 * r.val + a.val, by omega⟩ : Fin 1024) m l := by
  unfold rowX
  rw [← rectC_emb k r m a l, ← hf]
  rfl

/-- The contents agree with a target on some of the column tiles. -/
def GoodOn (G : Vec F S1024x2560 .bf16) (v : View sig .tc .vmem S1024x2560 .bf16) (f : BufTy.Contents (Elt F) v.ty)
    (t : List (Fin 20)) : Prop :=
  ∀ (i : Fin 1024) (n : Fin 20) (l : Fin 128), n ∈ t →
    v.read (Elt F) f (ix2 i (⟨128 * n.val + l.val, by omega⟩ : Fin 2560)) = G (ix2 i (⟨128 * n.val + l.val, by omega⟩ : Fin 2560))

theorem goodOn_nil (G : Vec F S1024x2560 .bf16) (v : View sig .tc .vmem S1024x2560 .bf16) (f : BufTy.Contents (Elt F) v.ty) :
    GoodOn G v f [] := fun _ _ _ h => absurd h List.not_mem_nil

/-- Contents that agree with a target on all the column tiles are the target. -/
theorem GoodOn.all {G : Vec F S1024x2560 .bf16} {v : View sig .tc .vmem S1024x2560 .bf16} {f : BufTy.Contents (Elt F) v.ty}
    {t : List (Fin 20)} (h : GoodOn G v f t) (ht : ∀ n : Fin 20, n ∈ t) : v.read (Elt F) f = G := by
  funext y
  have e := h (y 0) ⟨(y 1).val / 128, by have := (y 1).isLt; change (y 1).val < 2560 at this; omega⟩
    ⟨(y 1).val % 128, Nat.mod_lt _ (by decide)⟩ (ht _)
  have hy : y = ix2 (y 0) (⟨128 * ((y 1).val / 128) + (y 1).val % 128, by
      have := (y 1).isLt; change (y 1).val < 2560 at this; omega⟩ : Fin 2560) := by
    rw [eq_ix2 y]
    congr 1
    exact Fin.ext (Nat.div_add_mod _ _).symm
  rw [hy]; exact e

/-- A loop that writes one column tile, block by block, with the target's values adds that tile to the ones that agree. -/
theorem GoodOn.loop {G : Vec F S1024x2560 .bf16} {v : View sig .tc .vmem S1024x2560 .bf16} {f : BufTy.Contents (Elt F) v.ty}
    {t : List (Fin 20)} (hf : GoodOn G v f t) (n : Fin 20) (pay : Fin 32 → Fin 2 → Vec F S16x128 .bf16)
    (hpay : ∀ (k : Fin 32) (r : Fin 2) (a : Fin 16) (l : Fin 128), pay k r (ix2 a l)
      = G (ix2 (⟨32 * k.val + 16 * r.val + a.val, by omega⟩ : Fin 1024) (⟨128 * n.val + l.val, by omega⟩ : Fin 2560)))
    (pb : ℕ → List (View.Piece (Elt F) S1024x2560 .bf16)) (h0 : pb 0 = [])
    (hs : ∀ k : Fin 32, pb (k.val + 1) = [⟨rectC k 1 n, pay k 1⟩, ⟨rectC k 0 n, pay k 0⟩] ++ pb k.val) :
    GoodOn G v (v.writes (Elt F) f (pb 32)) (n :: t) := by
  have hmem : ∀ N, N ≤ 32 → ∀ p ∈ pb N, ∃ k r, p = ⟨rectC k r n, pay k r⟩ := by
    intro N
    induction N with
    | zero => intro _ p hp; rw [h0] at hp; exact absurd hp List.not_mem_nil
    | succ N ih =>
      intro hN p hp
      rw [hs ⟨N, hN⟩] at hp
      simp only [List.cons_append, List.nil_append, List.mem_cons] at hp
      rcases hp with rfl | rfl | hp
      · exact ⟨_, _, rfl⟩
      · exact ⟨_, _, rfl⟩
      · exact ih (by omega) p hp
  have hcov : ∀ N, N ≤ 32 → ∀ k : Fin 32, k.val < N → ∀ r : Fin 2, (⟨rectC k r n, pay k r⟩ : View.Piece (Elt F) S1024x2560 .bf16) ∈ pb N := by
    intro N
    induction N with
    | zero => intro _ k hk; exact absurd hk (Nat.not_lt_zero _)
    | succ N ih =>
      intro hN k hk r
      rw [hs ⟨N, hN⟩]
      simp only [List.cons_append, List.nil_append, List.mem_cons]
      by_cases he : k.val = N
      · obtain rfl : k = ⟨N, hN⟩ := Fin.ext he
        match r with
        | ⟨0, _⟩ => exact Or.inr (Or.inl rfl)
        | ⟨1, _⟩ => exact Or.inl rfl
      · exact Or.inr (Or.inr (ih (by omega) k (by omega) r))
  intro i m l hm
  by_cases hmn : m = n
  · subst hmn
    refine View.read_writes_apply_of_pieces v f G _ ?_ _ ?_
    · intro p hp x
      obtain ⟨k, r, rfl⟩ := hmem 32 (Nat.le_refl _) p hp
      obtain ⟨a, b, rfl⟩ : ∃ (a : Fin 16) (b : Fin 128), x = ix2 a b := ⟨x 0, x 1, eq_ix2 x⟩
      exact (hpay k r a b).trans (congrArg G (rectC_emb k r m a b).symm)
    · refine ⟨⟨rectC ⟨i.val / 32, by omega⟩ ⟨i.val % 32 / 16, by omega⟩ m, _⟩,
        hcov 32 (Nat.le_refl _) ⟨i.val / 32, by omega⟩ (by show i.val / 32 < 32; omega) ⟨i.val % 32 / 16, by omega⟩, ?_⟩
      rw [← Rect.map_emb_univ]
      refine Finset.mem_map.mpr ⟨ix2 (⟨i.val % 16, by omega⟩ : Fin 16) l, Finset.mem_univ _, ?_⟩
      refine (rectC_emb _ _ m _ l).trans ?_
      congr 1
      exact Fin.ext (by simp only []; omega)
  · have hm' : m ∈ t := by
      rcases List.mem_cons.mp hm with h | h
      · exact absurd h hmn
      · exact h
    rw [View.read_writes_apply_of_forall_not_mem]
    · exact hf i m l hm'
    · intro p hp hy
      obtain ⟨k, r, rfl⟩ := hmem 32 (Nat.le_refl _) p hp
      rw [← Rect.map_emb_univ] at hy
      obtain ⟨x, -, hx⟩ := Finset.mem_map.mp hy
      obtain ⟨a, b, rfl⟩ : ∃ (a : Fin 16) (b : Fin 128), x = ix2 a b := ⟨x 0, x 1, eq_ix2 x⟩
      have e : 128 * n.val + b.val = 128 * m.val + l.val :=
        congrArg (fun y : S1024x2560.Idx => (y 1).val) ((rectC_emb k r n a b).symm.trans hx)
      exact hmn (Fin.ext (by omega))

end Cert.KernelIdeal.Own
-- ==== Proof.Ideal.Tiles.lean ====
/- The vectors of the two remaining loops, which write every column tile in a trip: the codes put back in channel order, and
   the weights dequantised. Each loop's own text unfolds to them. -/
module

public import proofs.«01_k».proof.Proof.Ideal.Block

@[expose] public section

set_option maxRecDepth 16384

noncomputable section

namespace Cert.KernelIdeal.Own

open Cert.KernelIdeal Cert.KernelIdeal.Gen
open Idealize.ShloMosaic hiding ix1 ix2 ix3 eq_ix1 eq_ix2 eq_ix3
open Idealize.ShloMosaic.TcCoe Idealize.SL.Sem
open Idealize.ShloMosaic.ValueIdx

variable {F : FTy → Type} [FloatOps F]

/-- The offsets of the 32 rows `32 k` on and of the column `n`, as the kernel computes them. -/
def offR (k : Nat) (n : Nat) : Fin 2 → Nat :=
  ![(Scalar.indexCast (Scalar.muli (Scf.iv 0#32 1#32 k) 32#32) : Index).toNat, n]

theorem offR_eq (k : Fin 32) (n : Nat) : offR k n = ![32 * k.val, n] := by
  have h : ∀ k : Fin 32, (Scalar.indexCast (Scalar.muli (Scf.iv 0#32 1#32 k.val) 32#32) : Index).toNat = 32 * k.val := by
    decide +kernel
  unfold offR; rw [h]

theorem offR_inb (k : Fin 32) (n : Fin 20) : ∀ a, offR k (128 * n.val) a + S32x128.size a ≤ S1024x2560.size a := by
  rw [offR_eq]; intro a
  match a with
  | ⟨0, _⟩ => show 32 * k.val + 32 ≤ 1024; omega
  | ⟨1, _⟩ => show 128 * n.val + 128 ≤ 2560; omega

/-- The rectangle of 32 rows and 128 columns there. -/
abbrev rectR (k : Fin 32) (n : Fin 20) : Rect S1024x2560 :=
  Rect.unit (s := S1024x2560) (offR k (128 * n.val)) S32x128.size (offR_inb k n)

/-! ## The codes in channel order -/

/-- The codes of a tile as bytes, four rows to a word. -/
def packV (v : Vec F S32x128 .bf16) : IVec S8x128 32 :=
  bitcast S8x128 32 (trunci 8 (fptosi 32 v) natLt_8_32) bitcasts_S32x128_w8_S8x128_w32

/-- The lanes of the even and of the odd channels taken in turn. -/
def zipV (v0 : IVec S8x128 32) (h : BitVec 32) (e o : Vec F S32x128 .bf16) : IVec S32x128 8 :=
  bitcast S32x128 8
    (select (cmpi .eq (andi v0 (broadcast S8x128 1#32)) (broadcast S8x128 0#32))
      (dynamicGather 1 (packV e) (shapeCast S8x128 (shapeCast S8x128x1 (addi (shrsi v0 (broadcast S8x128 1#32)) (broadcast S8x128 h))
        shapeCasts_S8x128_S8x128x1) shapeCasts_S8x128x1_S8x128))
      (dynamicGather 1 (packV o) (shapeCast S8x128 (shapeCast S8x128x1 (addi (shrsi v0 (broadcast S8x128 1#32)) (broadcast S8x128 h))
        shapeCasts_S8x128_S8x128x1) shapeCasts_S8x128x1_S8x128)))
    bitcasts_S8x128_w32_S32x128_w8

/-- The rows loaded from the array of codes. -/
abbrev ldR (v : View sig .tc .vmem S1024x2560 .bf16) (X : BufTy.Contents (Elt F) v.ty) (k : Fin 32) (n : Fin 20) :
    Vec F S32x128 .bf16 :=
  v.readAt (Elt F) (rectR k n).toLoadRect X

/-- What a trip stores at column tile `n` of the codes in channel order. -/
def epay (v : View sig .tc .vmem S1024x2560 .bf16) (X : BufTy.Contents (Elt F) v.ty) (k : Fin 32) (n : Fin 20) : Vec F S32x128 .i8 :=
  zipV laneV (BitVec.ofNat 32 (64 * (n.val % 2))) (ldR v X k ⟨n.val / 2, by omega⟩) (ldR v X k ⟨10 + n.val / 2, by omega⟩)

def etrip (v : View sig .tc .vmem S1024x2560 .bf16) (X : BufTy.Contents (Elt F) v.ty) (k : Fin 32) :
    List (View.Piece (Elt F) S1024x2560 .i8) :=
  [(19 : Fin 20), 18, 17, 16, 15, 14, 13, 12, 11, 10, 9, 8, 7, 6, 5, 4, 3, 2, 1, 0].map fun n => ⟨rectR k n, epay v X k n⟩

/-! ## The weights -/

theorem offS_inb (k : Fin 8) : ∀ a, offR k 0 a + S32x5.size a ≤ S256x5.size a := by
  rw [offR_eq ⟨k.val, by omega⟩]; intro a
  match a with
  | ⟨0, _⟩ => show 32 * k.val + 32 ≤ 256; omega
  | ⟨1, _⟩ => show 0 + 5 ≤ 5; omega

theorem offW_inb (k : Fin 8) (t : Fin 10) : ∀ a, offR k (128 * t.val) a + S32x128.size a ≤ S256x1280.size a := by
  rw [offR_eq ⟨k.val, by omega⟩]; intro a
  match a with
  | ⟨0, _⟩ => show 32 * k.val + 32 ≤ 256; omega
  | ⟨1, _⟩ => show 128 * t.val + 128 ≤ 1280; omega

theorem offD_inb (n : Fin 20) : ∀ a, (![n.val, 0, 0] : Fin 3 → Nat) a + S1x8x128.size a ≤ S20x8x128.size a := by
  intro a
  match a with
  | ⟨0, _⟩ => show n.val + 1 ≤ 20; omega
  | ⟨1, _⟩ => show 0 + 8 ≤ 8; omega
  | ⟨2, _⟩ => show 0 + 128 ≤ 128; omega

/-- A table of five columns widened to 128 lanes. -/
def padV (x : FVec F S32x5 .bf16) : FVec F S32x128 .bf16 :=
  concatenate S32x128 1 [⟨S32x5, x⟩, ⟨S32x123, broadcast S32x123 (Scalar.ofBits .bf16 0x0000#16)⟩] concatenates_S32x5_S32x123_S32x128_d1

/-- The lower or the upper half of 32 rows. -/
def halfV {α : Type} (u : Fin 2) (x : S32x128.Idx → α) : S16x128.Idx → α :=
  match u with
  | 0 => extractStridedSlice S16x128 ![0, 0] x slices_S32x128_o0_0_S16x128
  | 1 => extractStridedSlice S16x128 ![16, 0] x slices_S32x128_o16_0_S16x128

/-- The entries of a half of the table for the clusters of the lanes. -/
def takeV (u : Fin 2) (tab : FVec F S32x128 .bf16) (c : IVec S16x128 32) : FVec F S16x128 .bf16 :=
  truncf .bf16 (dynamicGather 1 (extf .f32 (halfV u tab) bitsLt_bf16_f32)
    (shapeCast S16x128 (shapeCast S16x128x1 c shapeCasts_S16x128_S16x128x1) shapeCasts_S16x128x1_S16x128)) bitsLt_bf16_f32

/-- The codes in the lower or the upper four bits. -/
def nibV (n : Fin 20) (w : Vec F S32x128 .i8) : FVec F S32x128 .bf16 :=
  if n.val < 10 then sitofp .bf16 (andi (extui 32 (w : IVec S32x128 8) natLt_8_32) (broadcast S32x128 15#32))
  else sitofp .bf16 (shrsi (extui 32 (w : IVec S32x128 8) natLt_8_32) (broadcast S32x128 4#32))

/-- The dequantised weights of 16 rows at one column tile. -/
def wvec (u : Fin 2) (n : Fin 20) (w : Vec F S32x128 .i8) (sc : Vec F S32x5 .f32) (zp : Vec F S32x5 .i8) (c : Vec F S1x8x128 .i32) :
    FVec F S16x128 .bf16 :=
  shapeCast S16x128
    (mulf (subf (halfV u (nibV n w)) (takeV u (padV (sitofp .bf16 (extui 32 (zp : IVec S32x5 8) natLt_8_32)))
        (cat2 (shapeCast S8x128 (c : IVec S1x8x128 32) shapeCasts_S1x8x128_S8x128))))
      (takeV u (padV (truncf .bf16 sc bitsLt_bf16_f32)) (cat2 (shapeCast S8x128 (c : IVec S1x8x128 32) shapeCasts_S1x8x128_S8x128))))
    shapeCasts_S16x128_S16x128

section Trips

variable (𝒱 : Variants) (c : Dev nD) (bd : Option 𝒱.V) (i : grid0.Coords)
  (arg1 : Memref sig .tc .smem S6 .i32) (harg1 : arg1.IsWhole) (arg2 : Memref sig .tc .smem S5 .f32) (harg2 : arg2.IsWhole)
  (arg3 : Memref sig .tc .smem S5 .i32) (harg3 : arg3.IsWhole) (arg4 : Memref sig .tc .vmem S20x128 .i32) (harg4 : arg4.IsWhole)
  (arg5 : Memref sig .tc .vmem S1024x2560 .bf16) (harg5 : arg5.IsWhole) (arg6 : Memref sig .tc .vmem S256x1280 .i8) (harg6 : arg6.IsWhole)
  (arg7 : Memref sig .tc .vmem S256x5 .f32) (harg7 : arg7.IsWhole) (arg8 : Memref sig .tc .vmem S256x5 .i8) (harg8 : arg8.IsWhole)
  (arg9 : Memref sig .tc .vmem S1024x256 .bf16) (harg9 : arg9.IsWhole) (arg10 : Memref sig .tc .vmem S1024x2560 .i8) (harg10 : arg10.IsWhole)
  (arg11 : Memref sig .tc .vmem S1024x2560 .bf16) (harg11 : arg11.IsWhole) (arg12 : Memref sig .tc .vmem S1024x2560 .bf16) (harg12 : arg12.IsWhole)
  (arg13 : Memref sig .tc .vmem S20x8x128 .i32) (harg13 : arg13.IsWhole)

/-- What a trip stores at column tile `n` of the weights. -/
def wpay (X6 : BufTy.Contents (Elt F) arg6.view.ty) (X7 : BufTy.Contents (Elt F) arg7.view.ty) (X8 : BufTy.Contents (Elt F) arg8.view.ty)
    (X13 : BufTy.Contents (Elt F) arg13.view.ty) (k : Fin 8) (u : Fin 2) (n : Fin 20) : Vec F S16x128 .bf16 :=
  wvec u n
    (arg6.view.readAt (Elt F) (Rect.unit (s := S256x1280) (offR k (128 * (⟨n.val % 10, Nat.mod_lt _ (by decide)⟩ : Fin 10).val)) S32x128.size
      (offW_inb k ⟨n.val % 10, Nat.mod_lt _ (by decide)⟩)).toLoadRect X6)
    (arg7.view.readAt (Elt F) (Rect.unit (s := S256x5) (offR k 0) S32x5.size (offS_inb k)).toLoadRect X7)
    (arg8.view.readAt (Elt F) (Rect.unit (s := S256x5) (offR k 0) S32x5.size (offS_inb k)).toLoadRect X8)
    (arg13.view.readAt (Elt F) (Rect.unit (s := S20x8x128) ![n.val, 0, 0] S1x8x128.size (offD_inb n)).toLoadRect X13)

def wtrip (X6 : BufTy.Contents (Elt F) arg6.view.ty) (X7 : BufTy.Contents (Elt F) arg7.view.ty) (X8 : BufTy.Contents (Elt F) arg8.view.ty)
    (X13 : BufTy.Contents (Elt F) arg13.view.ty) (k : Fin 8) : List (View.Piece (Elt F) S1024x2560 .bf16) :=
  [(19 : Fin 20), 9, 18, 8, 17, 7, 16, 6, 15, 5, 14, 4, 13, 3, 12, 2, 11, 1, 10, 0].flatMap fun n =>
    [⟨rectC ⟨k.val, by omega⟩ 1 n, wpay arg6 arg7 arg8 arg13 X6 X7 X8 X13 k 1 n⟩,
     ⟨rectC ⟨k.val, by omega⟩ 0 n, wpay arg6 arg7 arg8 arg13 X6 X7 X8 X13 k 0 n⟩]

theorem trip_eq_21 (k0_h1 : k0_cond1 i = 1#1) (X : BufTy.Contents (Elt F) arg12.view.ty) (k : Fin k0_t21_loop.trips) :
    tripL_k0_t21 (F := F) 𝒱 c bd i arg1 harg1 arg2 harg2 arg3 harg3 arg4 harg4 arg5 harg5 arg6 harg6 arg7 harg7 arg8 harg8 arg9 harg9 arg10 harg10 arg11 harg11 arg12 harg12 arg13 harg13 laneV k0_h1 X k
      = etrip arg12.view X k := by
  unfold tripL_k0_t21 trip_k0_t21; rfl

theorem trip_eq_22 (X6 : BufTy.Contents (Elt F) arg6.view.ty) (X7 : BufTy.Contents (Elt F) arg7.view.ty) (X8 : BufTy.Contents (Elt F) arg8.view.ty)
    (X13 : BufTy.Contents (Elt F) arg13.view.ty) (k : Fin k0_t22_loop.trips) :
    tripL_k0_t22 (F := F) 𝒱 c bd i arg1 harg1 arg2 harg2 arg3 harg3 arg4 harg4 arg5 harg5 arg6 harg6 arg7 harg7 arg8 harg8 arg9 harg9 arg10 harg10 arg11 harg11 arg12 harg12 arg13 harg13 X6 X7 X8 X13 k
      = wtrip arg6 arg7 arg8 arg13 X6 X7 X8 X13 k := by
  unfold tripL_k0_t22 trip_k0_t22; rfl

end Trips

end Cert.KernelIdeal.Own
-- ==== Proof.Ideal.TilePoints.lean ====
/- What the loop over the codes and the loop over the weights leave: the codes in channel order, and the dequantised weights. -/
module

public import proofs.«01_k».proof.Proof.Ideal.Tiles
public import Idealize.ShloMosaic.Lib.BitcastFour

@[expose] public section

set_option maxRecDepth 16384

noncomputable section

namespace Cert.KernelIdeal.Own

open Cert.KernelIdeal Cert.KernelIdeal.Gen
open Idealize.ShloMosaic hiding ix1 ix2 ix3 eq_ix1 eq_ix2 eq_ix3
open Idealize.SL.Sem
open Idealize.ShloMosaic.ValueIdx

variable {F : FTy → Type} [FloatOps F]

/-! ## Codes -/

/-- A code as a byte. -/
def codeS (x : F .bf16) : BitVec 8 := (FloatOps.fptosi 32 x).setWidth 8

theorem lane_even (l : Fin 128) : IntOp.cmpi .eq (IntOp.andi (BitVec.ofNat 32 l.val) 1#32) 0#32 = BitVec.ofBool (decide (l.val % 2 = 0)) := by
  revert l; decide +kernel

theorem lane_half (l : Fin 128) (p : Fin 2) :
    (IntOp.addi (IntOp.shrsi .vector (BitVec.ofNat 32 l.val) 1#32) (BitVec.ofNat 32 (64 * p.val))).toNat % 128 = l.val / 2 + 64 * p.val := by
  revert l p; decide +kernel

/-- Packed rows, taken at a lane and unpacked, are the rows taken at the lane. -/
theorem zipV_apply (p : Fin 2) (e o : Vec F S32x128 .bf16) (i : Fin 32) (l : Fin 128) :
    zipV laneV (BitVec.ofNat 32 (64 * p.val)) e o (ix2 i l)
      = if l.val % 2 = 0 then codeS (e (ix2 i (⟨l.val / 2 + 64 * p.val, by omega⟩ : Fin 128)))
        else codeS (o (ix2 i (⟨l.val / 2 + 64 * p.val, by omega⟩ : Fin 128))) := by
  unfold zipV
  simp only [shapeCast_shapeCast]
  have hg : ∀ v : Vec F S32x128 .bf16, dynamicGather 1 (packV v)
      (addi (shrsi laneV (broadcast S8x128 1#32)) (broadcast S8x128 (BitVec.ofNat 32 (64 * p.val))))
      (ix2 (⟨i.val / 4, by omega⟩ : Fin 8) l) = packV v (ix2 (⟨i.val / 4, by omega⟩ : Fin 8) (⟨l.val / 2 + 64 * p.val, by omega⟩ : Fin 128)) := by
    intro v
    show packV v _ = packV v _
    refine congrArg (packV v) (funext fun b => ?_)
    match b with
    | ⟨0, _⟩ => rfl
    | ⟨1, _⟩ =>
      refine Fin.ext ?_
      show (IntOp.addi (IntOp.shrsi .vector (laneV (ix2 _ l)) 1#32) (BitVec.ofNat 32 (64 * p.val))).toNat % 128 = _
      rw [laneV_apply]
      exact lane_half l p
  have hp : ∀ (v : Vec F S32x128 .bf16) (l' : Fin 128) (q : Nat), q < 8 →
      (packV v (ix2 (⟨i.val / 4, by omega⟩ : Fin 8) l')).getLsbD ((i.val * 8 + q) % 32) = (codeS (v (ix2 i l'))).getLsbD q := by
    intro v l' q hq
    unfold packV
    have := bitcast_8_32_getLsbD_ix2 (trunci 8 (fptosi 32 v) natLt_8_32) bitcasts_S32x128_w8_S8x128_w32 (⟨i.val / 4, by omega⟩ : Fin 8) l'
      ((i.val * 8 + q) % 32) (Nat.mod_lt _ (by decide)) i (by simp only []; omega)
    refine this.trans ?_
    rw [show (i.val * 8 + q) % 32 % 8 = q by omega]
    rfl
  apply BitVec.eq_of_getLsbD_eq
  intro q hq
  rw [bitcast_getLsbD _ _ _ q hq (by decide)]
  have hidx : ∀ pf, (bitcasts_S8x128_w32_S32x128_w8).srcIdx (ix2 i l : S32x128.Idx) ((S32x128.row (ix2 i l) * 8 + q) / 32) pf
      = ix2 (⟨i.val / 4, by omega⟩ : Fin 8) l := by
    intro pf
    funext c
    match c with
    | ⟨0, _⟩ =>
      refine Fin.ext ((Shape.Bitcasts.srcIdx_row _ _ _ _ ⟨0, Nat.zero_lt_two⟩ rfl).trans ?_)
      show (i.val * 8 + q) / 32 = i.val / 4
      omega
    | ⟨1, _⟩ => exact Fin.ext (Shape.Bitcasts.srcIdx_other _ _ _ _ ⟨1, Nat.one_lt_two⟩ (by show ¬ 1 + 2 = 2; omega))
  rw [hidx]
  show BitVec.getLsbD (w := 32) (Scalar.select (IntOp.cmpi .eq (IntOp.andi (laneV (ix2 (⟨i.val / 4, by omega⟩ : Fin 8) l)) 1#32) 0#32) _ _) ((i.val * 8 + q) % 32) = _
  rw [laneV_apply, lane_even]
  unfold Scalar.select
  by_cases hl : l.val % 2 = 0
  · rw [if_pos (by simp [hl]), if_pos hl]
    rw [hg e]
    exact hp e _ q hq
  · rw [if_neg (by simp [hl]), if_neg hl]
    rw [hg o]
    exact hp o _ q hq

theorem rectR_emb (k : Fin 32) (n : Fin 20) (a : Fin 32) (l : Fin 128) :
    (rectR k n).emb (ix2 a l) = ix2 (⟨32 * k.val + a.val, by omega⟩ : Fin 1024) (⟨128 * n.val + l.val, by omega⟩ : Fin 2560) := by
  funext b
  refine Fin.ext ?_
  show offR k (128 * n.val) b + 1 * ((ix2 a l : S32x128.Idx) b).val = _
  rw [congrFun (offR_eq k _) b]
  match b with
  | ⟨0, _⟩ => show 32 * k.val + 1 * a.val = _; rw [Nat.one_mul]
  | ⟨1, _⟩ => show 128 * n.val + 1 * l.val = _; rw [Nat.one_mul]

theorem ldR_apply {v : View sig .tc .vmem S1024x2560 .bf16} {f : BufTy.Contents (Elt F) v.ty} {G : Vec F S1024x2560 .bf16}
    (hf : v.read (Elt F) f = G) (k : Fin 32) (n : Fin 20) (a : Fin 32) (l : Fin 128) :
    ldR v f k n (ix2 a l) = G (ix2 (⟨32 * k.val + a.val, by omega⟩ : Fin 1024) (⟨128 * n.val + l.val, by omega⟩ : Fin 2560)) := by
  rw [← rectR_emb k n a l, ← hf]
  rfl

variable (B : IVec S6 32) (S : FVec F S5 .f32) (Z : IVec S5 32) (P : IVec S20x128 32) (X : Vec F S1024x2560 .bf16)

/-- The codes in channel order. -/
def XG : Vec F S1024x2560 .i8 := fun y => codeS (FloatOps.truncf .bf16 bitsLt_bf16_f32 (qW B S Z P X (y 0) (y 1)))

variable {B S Z P X}

theorem epay_apply {v : View sig .tc .vmem S1024x2560 .bf16} {f : BufTy.Contents (Elt F) v.ty} (hf : v.read (Elt F) f = QG B S Z P X)
    (k : Fin 32) (n : Fin 20) (a : Fin 32) (l : Fin 128) :
    epay v f k n (ix2 a l) = XG B S Z P X (ix2 (⟨32 * k.val + a.val, by omega⟩ : Fin 1024) (⟨128 * n.val + l.val, by omega⟩ : Fin 2560)) := by
  unfold epay
  rw [zipV_apply ⟨n.val % 2, Nat.mod_lt _ (by decide)⟩, ldR_apply hf, ldR_apply hf]
  unfold QG XG colCh chan
  split
  · next h =>
    show codeS (FloatOps.truncf .bf16 _ (qW B S Z P X _ _)) = codeS (FloatOps.truncf .bf16 _ (qW B S Z P X _ _))
    congr 3
    refine Fin.ext ?_
    show 2 * (128 * ((128 * (n.val / 2) + (l.val / 2 + 64 * (n.val % 2))) / 128 % 10) + (128 * (n.val / 2) + (l.val / 2 + 64 * (n.val % 2))) % 128)
      + (128 * (n.val / 2) + (l.val / 2 + 64 * (n.val % 2))) / 128 / 10 = 128 * n.val + l.val
    omega
  · next h =>
    show codeS (FloatOps.truncf .bf16 _ (qW B S Z P X _ _)) = codeS (FloatOps.truncf .bf16 _ (qW B S Z P X _ _))
    congr 3
    refine Fin.ext ?_
    show 2 * (128 * ((128 * (10 + n.val / 2) + (l.val / 2 + 64 * (n.val % 2))) / 128 % 10) + (128 * (10 + n.val / 2) + (l.val / 2 + 64 * (n.val % 2))) % 128)
      + (128 * (10 + n.val / 2) + (l.val / 2 + 64 * (n.val % 2))) / 128 / 10 = 128 * n.val + l.val
    omega

/-! ## Loops that write every tile -/

/-- The pieces of a loop's trips. -/
theorem loop_pieces {α : Type} (T : ℕ → List α) (pb : ℕ → List α) (h0 : pb 0 = []) (N : ℕ)
    (hs : ∀ k, k < N → pb (k + 1) = T k ++ pb k) : ∀ p, p ∈ pb N ↔ ∃ k, k < N ∧ p ∈ T k := by
  induction N with
  | zero => intro p; rw [h0]; simp
  | succ N ih =>
    intro p
    rw [hs N (Nat.lt_succ_self N), List.mem_append, ih (fun k hk => hs k (Nat.lt_succ_of_lt hk))]
    constructor
    · rintro (h | ⟨k, hk, h⟩)
      · exact ⟨N, Nat.lt_succ_self N, h⟩
      · exact ⟨k, Nat.lt_succ_of_lt hk, h⟩
    · rintro ⟨k, hk, h⟩
      by_cases e : k = N
      · subst e; exact Or.inl h
      · exact Or.inr ⟨k, by omega, h⟩

/-- The codes in channel order are what the loop over them leaves. -/
theorem emit_loop {v : View sig .tc .vmem S1024x2560 .bf16} {f : BufTy.Contents (Elt F) v.ty} (hf : v.read (Elt F) f = QG B S Z P X)
    (v' : View sig .tc .vmem S1024x2560 .i8) (f' : BufTy.Contents (Elt F) v'.ty)
    (pb : ℕ → List (View.Piece (Elt F) S1024x2560 .i8)) (h0 : pb 0 = []) (hs : ∀ k : Fin 32, pb (k.val + 1) = etrip v f k ++ pb k.val) :
    v'.read (Elt F) (v'.writes (Elt F) f' (pb 32)) = XG B S Z P X := by
  have hp := loop_pieces (fun k => if h : k < 32 then etrip v f ⟨k, h⟩ else []) pb h0 32
    (fun k hk => by rw [dif_pos hk]; exact hs ⟨k, hk⟩)
  funext y
  refine View.read_writes_apply_of_pieces v' f' _ _ ?_ _ ?_
  · intro p hm x
    obtain ⟨k, hk, hm⟩ := (hp p).mp hm
    rw [dif_pos hk] at hm
    obtain ⟨n, -, rfl⟩ := List.mem_map.mp hm
    obtain ⟨a, b, rfl⟩ : ∃ (a : Fin 32) (b : Fin 128), x = ix2 a b := ⟨x 0, x 1, eq_ix2 x⟩
    exact (epay_apply hf ⟨k, hk⟩ n a b).trans (congrArg (XG B S Z P X) (rectR_emb ⟨k, hk⟩ n a b).symm)
  · obtain ⟨i, j, rfl⟩ : ∃ (i : Fin 1024) (j : Fin 2560), y = ix2 i j := ⟨y 0, y 1, eq_ix2 y⟩
    refine ⟨⟨rectR ⟨i.val / 32, by omega⟩ ⟨j.val / 128, by omega⟩, epay v f ⟨i.val / 32, by omega⟩ ⟨j.val / 128, by omega⟩⟩,
      (hp _).mpr ⟨i.val / 32, by omega, ?_⟩, ?_⟩
    · rw [dif_pos (by omega : i.val / 32 < 32)]
      exact List.mem_map.mpr ⟨⟨j.val / 128, by omega⟩, (by decide +kernel : ∀ n : Fin 20, n ∈ [(19 : Fin 20), 18, 17, 16, 15, 14, 13, 12, 11, 10, 9, 8, 7, 6, 5, 4, 3, 2, 1, 0]) _, rfl⟩
    · rw [← Rect.map_emb_univ]
      refine Finset.mem_map.mpr ⟨ix2 (⟨i.val % 32, by omega⟩ : Fin 32) (⟨j.val % 128, by omega⟩ : Fin 128), Finset.mem_univ _, ?_⟩
      refine (rectR_emb _ _ _ _).trans ?_
      congr 1
      · exact Fin.ext (Nat.div_add_mod _ _)
      · exact Fin.ext (Nat.div_add_mod _ _)

/-! ## Weights -/

/-- The entry of a table of five for a cluster, the table widened by zeros. -/
def padS (t : Fin 5 → F .bf16) (c : BitVec 32) : F .bf16 :=
  if h : c.toNat % 128 < 5 then t ⟨c.toNat % 128, h⟩ else Scalar.ofBits .bf16 0x0000#16

/-- A code of a weight, from the byte that holds two. -/
def nibS (low : Prop) [Decidable low] (w : BitVec 8) : F .bf16 :=
  if low then FloatOps.sitofp .bf16 (IntOp.andi (w.setWidth 32) 15#32) else FloatOps.sitofp .bf16 (IntOp.shrsi .vector (w.setWidth 32) 4#32)

/-- A weight from its byte, the scales and zero points of its row, and its cluster. -/
def wS (low : Prop) [Decidable low] (w : BitVec 8) (sc : Fin 5 → F .f32) (zp : Fin 5 → BitVec 8) (c : BitVec 32) : F .bf16 :=
  FloatOps.mulf (FloatOps.subf (nibS low w)
      (FloatOps.truncf .bf16 bitsLt_bf16_f32 (FloatOps.extf .f32 bitsLt_bf16_f32 (padS (fun k => FloatOps.sitofp .bf16 ((zp k).setWidth 32)) c))))
    (FloatOps.truncf .bf16 bitsLt_bf16_f32 (FloatOps.extf .f32 bitsLt_bf16_f32 (padS (fun k => FloatOps.truncf .bf16 bitsLt_bf16_f32 (sc k)) c)))

theorem halfV_apply {α : Type} (u : Fin 2) (x : S32x128.Idx → α) (r : Fin 16) (l : Fin 128) :
    halfV u x (ix2 r l) = x (ix2 (⟨16 * u.val + r.val, by omega⟩ : Fin 32) l) := by
  match u with
  | ⟨0, _⟩ =>
    show x _ = x _
    refine congrArg x (funext fun b => Fin.ext ?_)
    match b with
    | ⟨0, _⟩ => show 0 + r.val = 16 * 0 + r.val; omega
    | ⟨1, _⟩ => show 0 + l.val = l.val; omega
  | ⟨1, _⟩ =>
    show x _ = x _
    refine congrArg x (funext fun b => Fin.ext ?_)
    match b with
    | ⟨0, _⟩ => show 16 + r.val = 16 * 1 + r.val; omega
    | ⟨1, _⟩ => show 0 + l.val = l.val; omega

theorem padV_apply (x : FVec F S32x5 .bf16) (i : Fin 32) (c : BitVec 32) :
    padV x (ix2 i (⟨c.toNat % 128, Nat.mod_lt _ (by decide)⟩ : Fin 128)) = padS (fun k => x (ix2 i k)) c := by
  unfold padV padS
  by_cases h : c.toNat % 128 < 5
  · rw [dif_pos h]
    exact concatenate_pair_apply_left (t := S32x128) (s₁ := S32x5) (s₂ := S32x123) 1 x _ _ _ rfl (ix2 i (⟨c.toNat % 128, h⟩ : Fin 5))
      (fun b => by match b with | ⟨0, _⟩ => rfl | ⟨1, _⟩ => rfl)
  · rw [dif_neg h]
    exact concatenate_pair_apply_right (t := S32x128) (s₁ := S32x5) (s₂ := S32x123) 1 x _ _ _ rfl rfl
      (ix2 i (⟨c.toNat % 128 - 5, by have := Nat.mod_lt c.toNat (show 0 < 128 by decide); omega⟩ : Fin 123))
      (fun b hb => by match b with | ⟨0, _⟩ => rfl | ⟨1, _⟩ => exact absurd rfl hb)
      (by show c.toNat % 128 - 5 + 5 = c.toNat % 128; omega)

theorem takeV_apply (u : Fin 2) (x : FVec F S32x5 .bf16) (c : IVec S16x128 32) (r : Fin 16) (l : Fin 128) :
    takeV u (padV x) c (ix2 r l) = FloatOps.truncf .bf16 bitsLt_bf16_f32 (FloatOps.extf .f32 bitsLt_bf16_f32
      (padS (fun k => x (ix2 (⟨16 * u.val + r.val, by omega⟩ : Fin 32) k)) (c (ix2 r l)))) := by
  unfold takeV
  rw [← padV_apply, ← halfV_apply u (padV x) r]
  show FloatOps.truncf .bf16 _ (FloatOps.extf .f32 _ (halfV u (padV x) _)) = FloatOps.truncf .bf16 _ (FloatOps.extf .f32 _ (halfV u (padV x) _))
  congr 3
  funext b
  match b with
  | ⟨0, _⟩ => rfl
  | ⟨1, _⟩ =>
    refine Fin.ext ?_
    show ((shapeCast S16x128 (shapeCast S16x128x1 c shapeCasts_S16x128_S16x128x1) shapeCasts_S16x128x1_S16x128) (ix2 r l)).toNat % 128 = _
    rw [shapeCast_shapeCast]

theorem nibV_apply (n : Fin 20) (w : Vec F S32x128 .i8) (i : Fin 32) (l : Fin 128) :
    nibV n w (ix2 i l) = nibS (n.val < 10) (w (ix2 i l)) := by
  unfold nibV nibS
  split <;> rfl

theorem wvec_apply (u : Fin 2) (n : Fin 20) (w : Vec F S32x128 .i8) (sc : Vec F S32x5 .f32) (zp : Vec F S32x5 .i8) (c : Vec F S1x8x128 .i32)
    (r : Fin 16) (l : Fin 128) (cl : BitVec 32) (hc : ∀ a : Fin 8, c (ix3 (0 : Fin 1) a l) = cl) :
    wvec u n w sc zp c (ix2 r l)
      = wS (n.val < 10) (w (ix2 (⟨16 * u.val + r.val, by omega⟩ : Fin 32) l)) (fun k => sc (ix2 (⟨16 * u.val + r.val, by omega⟩ : Fin 32) k))
          (fun k => zp (ix2 (⟨16 * u.val + r.val, by omega⟩ : Fin 32) k)) cl := by
  unfold wvec wS
  rw [shapeCast_self]
  show FloatOps.mulf (FloatOps.subf (halfV u (nibV n w) (ix2 r l)) (takeV u _ _ (ix2 r l))) (takeV u _ _ (ix2 r l)) = _
  rw [takeV_apply, takeV_apply, halfV_apply, nibV_apply,
    cat2_apply (shapeCast S8x128 (c : IVec S1x8x128 32) shapeCasts_S1x8x128_S8x128) cl l (fun a => by
      rw [← hc a]; exact shapeCast_1ab_ab_apply (c : IVec S1x8x128 32) shapeCasts_S1x8x128_S8x128 a l) r]
  rfl

variable (B) in
/-- The clusters of the columns. -/
def CG : Vec F S20x8x128 .i32 := fun y => cidW B (chan (y 0) (y 2))

variable (B) in
/-- The dequantised weights of a block of 256 rows. -/
def WG (W6 : Vec F S256x1280 .i8) (W7 : Vec F S256x5 .f32) (W8 : Vec F S256x5 .i8) : Vec F S256x2560 .bf16 := fun y =>
  wS ((y 1).val < 1280) (W6 (ix2 (y 0) (⟨(y 1).val % 1280, Nat.mod_lt _ (by decide)⟩ : Fin 1280)))
    (fun k => W7 (ix2 (y 0) k)) (fun k => W8 (ix2 (y 0) k)) (cidW B (colCh (y 1)))

section Weights

variable {arg6 : Memref sig .tc .vmem S256x1280 .i8} {arg7 : Memref sig .tc .vmem S256x5 .f32} {arg8 : Memref sig .tc .vmem S256x5 .i8}
  {arg13 : Memref sig .tc .vmem S20x8x128 .i32}
  {X6 : BufTy.Contents (Elt F) arg6.view.ty} {X7 : BufTy.Contents (Elt F) arg7.view.ty} {X8 : BufTy.Contents (Elt F) arg8.view.ty}
  {X13 : BufTy.Contents (Elt F) arg13.view.ty} {W6 : Vec F S256x1280 .i8} {W7 : Vec F S256x5 .f32} {W8 : Vec F S256x5 .i8}

theorem wpay_apply (h6 : arg6.view.read (Elt F) X6 = W6) (h7 : arg7.view.read (Elt F) X7 = W7) (h8 : arg8.view.read (Elt F) X8 = W8)
    (h13 : arg13.view.read (Elt F) X13 = CG B) (k : Fin 8) (u : Fin 2) (n : Fin 20) (r : Fin 16) (l : Fin 128) :
    wpay arg6 arg7 arg8 arg13 X6 X7 X8 X13 k u n (ix2 r l)
      = WG B W6 W7 W8 (ix2 (⟨32 * k.val + 16 * u.val + r.val, by omega⟩ : Fin 256) (⟨128 * n.val + l.val, by omega⟩ : Fin 2560)) := by
  unfold wpay
  rw [wvec_apply u n _ _ _ _ r l (cidW B (chan n l)) (fun a => by
    show arg13.view.read (Elt F) X13 _ = _
    rw [h13]
    unfold CG
    refine congrArg (cidW B) (congrArg₂ chan (Fin.ext ?_) (Fin.ext ?_))
    · show n.val + 1 * 0 = n.val; omega
    · show 0 + 1 * l.val = l.val; omega)]
  unfold WG wS
  have e6 : arg6.view.readAt (Elt F) (Rect.unit (s := S256x1280) (offR k (128 * (⟨n.val % 10, Nat.mod_lt _ (by decide)⟩ : Fin 10).val)) S32x128.size
      (offW_inb k ⟨n.val % 10, Nat.mod_lt _ (by decide)⟩)).toLoadRect X6 (ix2 (⟨16 * u.val + r.val, by omega⟩ : Fin 32) l)
      = W6 (ix2 (⟨32 * k.val + 16 * u.val + r.val, by omega⟩ : Fin 256) (⟨(128 * n.val + l.val) % 1280, Nat.mod_lt _ (by decide)⟩ : Fin 1280)) := by
    show arg6.view.read (Elt F) X6 _ = _
    rw [h6]
    refine congrArg W6 (funext fun b => Fin.ext ?_)
    refine (congrArg (· + 1 * _) (congrFun (offR_eq ⟨k.val, by omega⟩ (128 * (n.val % 10))) b)).trans ?_
    match b with
    | ⟨0, _⟩ => show 32 * k.val + 1 * (16 * u.val + r.val) = 32 * k.val + 16 * u.val + r.val; omega
    | ⟨1, _⟩ => show 128 * (n.val % 10) + 1 * l.val = (128 * n.val + l.val) % 1280; omega
  have e7 : ∀ c : Fin 5, arg7.view.readAt (Elt F) (Rect.unit (s := S256x5) (offR k 0) S32x5.size (offS_inb k)).toLoadRect X7
      (ix2 (⟨16 * u.val + r.val, by omega⟩ : Fin 32) c) = W7 (ix2 (⟨32 * k.val + 16 * u.val + r.val, by omega⟩ : Fin 256) c) := by
    intro c
    show arg7.view.read (Elt F) X7 _ = _
    rw [h7]
    refine congrArg W7 (funext fun b => Fin.ext ?_)
    refine (congrArg (· + 1 * _) (congrFun (offR_eq ⟨k.val, by omega⟩ 0) b)).trans ?_
    match b with
    | ⟨0, _⟩ => show 32 * k.val + 1 * (16 * u.val + r.val) = 32 * k.val + 16 * u.val + r.val; omega
    | ⟨1, _⟩ => show 0 + 1 * c.val = c.val; omega
  have e8 : ∀ c : Fin 5, arg8.view.readAt (Elt F) (Rect.unit (s := S256x5) (offR k 0) S32x5.size (offS_inb k)).toLoadRect X8
      (ix2 (⟨16 * u.val + r.val, by omega⟩ : Fin 32) c) = W8 (ix2 (⟨32 * k.val + 16 * u.val + r.val, by omega⟩ : Fin 256) c) := by
    intro c
    show arg8.view.read (Elt F) X8 _ = _
    rw [h8]
    refine congrArg W8 (funext fun b => Fin.ext ?_)
    refine (congrArg (· + 1 * _) (congrFun (offR_eq ⟨k.val, by omega⟩ 0) b)).trans ?_
    match b with
    | ⟨0, _⟩ => show 32 * k.val + 1 * (16 * u.val + r.val) = 32 * k.val + 16 * u.val + r.val; omega
    | ⟨1, _⟩ => show 0 + 1 * c.val = c.val; omega
  have hch : colCh (⟨128 * n.val + l.val, by omega⟩ : Fin 2560) = chan n l := colCh_tile n l
  have hn : (n.val < 10) ↔ (128 * n.val + l.val < 1280) := by omega
  simp only [e6, e7, e8]
  show _ = FloatOps.mulf (FloatOps.subf (nibS (128 * n.val + l.val < 1280) _)
    (FloatOps.truncf .bf16 _ (FloatOps.extf .f32 _ (padS _ (cidW B (colCh _)))))) (FloatOps.truncf .bf16 _ (FloatOps.extf .f32 _ (padS _ (cidW B (colCh _)))))
  rw [hch]
  have hnib : ∀ w : BitVec 8, (nibS (n.val < 10) w : F .bf16) = nibS (128 * n.val + l.val < 1280) w := by
    intro w
    unfold nibS
    by_cases h : n.val < 10
    · rw [if_pos h, if_pos (hn.mp h)]
    · rw [if_neg h, if_neg (fun h' => h (hn.mpr h'))]
  rw [hnib]

/-- The first 256 rows, after the loop over the weights, hold the dequantised weights. -/
theorem weights_loop (h6 : arg6.view.read (Elt F) X6 = W6) (h7 : arg7.view.read (Elt F) X7 = W7) (h8 : arg8.view.read (Elt F) X8 = W8)
    (h13 : arg13.view.read (Elt F) X13 = CG B) (v : View sig .tc .vmem S1024x2560 .bf16) (f : BufTy.Contents (Elt F) v.ty)
    (pb : ℕ → List (View.Piece (Elt F) S1024x2560 .bf16)) (h0 : pb 0 = [])
    (hs : ∀ k : Fin 8, pb (k.val + 1) = wtrip arg6 arg7 arg8 arg13 X6 X7 X8 X13 k ++ pb k.val) (i : Fin 256) (j : Fin 2560) :
    v.read (Elt F) (v.writes (Elt F) f (pb 8)) (ix2 (⟨i.val, by omega⟩ : Fin 1024) j) = WG B W6 W7 W8 (ix2 i j) := by
  have hp := loop_pieces (fun k => if h : k < 8 then wtrip arg6 arg7 arg8 arg13 X6 X7 X8 X13 ⟨k, h⟩ else []) pb h0 8
    (fun k hk => by rw [dif_pos hk]; exact hs ⟨k, hk⟩)
  have hG := View.read_writes_apply_of_pieces v f
    (fun y => WG B W6 W7 W8 (ix2 (⟨(y 0).val % 256, Nat.mod_lt _ (by decide)⟩ : Fin 256) (y 1))) (pb 8) ?_
    (ix2 (⟨i.val, by omega⟩ : Fin 1024) j) ?_
  · refine hG.trans ?_
    show WG B W6 W7 W8 (ix2 _ j) = _
    congr 2
    exact Fin.ext (Nat.mod_eq_of_lt i.isLt)
  · intro p hm x
    obtain ⟨k, hk, hm⟩ := (hp p).mp hm
    rw [dif_pos hk] at hm
    obtain ⟨n, -, hm⟩ := List.mem_flatMap.mp hm
    have key : ∀ u : Fin 2, ∀ x : S16x128.Idx, wpay arg6 arg7 arg8 arg13 X6 X7 X8 X13 ⟨k, hk⟩ u n x
        = (fun y : S1024x2560.Idx => WG B W6 W7 W8 (ix2 (⟨(y 0).val % 256, Nat.mod_lt _ (by decide)⟩ : Fin 256) (y 1)))
            ((rectC ⟨k, by omega⟩ u n).emb x) := by
      intro u x
      obtain ⟨a, b, rfl⟩ : ∃ (a : Fin 16) (b : Fin 128), x = ix2 a b := ⟨x 0, x 1, eq_ix2 x⟩
      rw [wpay_apply h6 h7 h8 h13, rectC_emb]
      show WG B W6 W7 W8 (ix2 _ _) = WG B W6 W7 W8 (ix2 _ _)
      congr 2
      refine Fin.ext ?_
      show 32 * k + 16 * u.val + a.val = (32 * k + 16 * u.val + a.val) % 256
      omega
    simp only [List.mem_cons, List.not_mem_nil, or_false] at hm
    rcases hm with rfl | rfl
    · exact key 1 x
    · exact key 0 x
  · have hj : (⟨j.val / 128, by omega⟩ : Fin 20) ∈ [(19 : Fin 20), 9, 18, 8, 17, 7, 16, 6, 15, 5, 14, 4, 13, 3, 12, 2, 11, 1, 10, 0] :=
      (by decide +kernel : ∀ n : Fin 20, n ∈ [(19 : Fin 20), 9, 18, 8, 17, 7, 16, 6, 15, 5, 14, 4, 13, 3, 12, 2, 11, 1, 10, 0]) _
    have hmem : ∀ u : Fin 2, (⟨rectC ⟨i.val / 32, by omega⟩ u ⟨j.val / 128, by omega⟩,
        wpay arg6 arg7 arg8 arg13 X6 X7 X8 X13 ⟨i.val / 32, by omega⟩ u ⟨j.val / 128, by omega⟩⟩ : View.Piece (Elt F) S1024x2560 .bf16) ∈ pb 8 := by
      intro u
      refine (hp _).mpr ⟨i.val / 32, by omega, ?_⟩
      rw [dif_pos (by omega : i.val / 32 < 8)]
      refine List.mem_flatMap.mpr ⟨_, hj, ?_⟩
      match u with
      | ⟨0, _⟩ => exact List.mem_cons_of_mem _ List.mem_cons_self
      | ⟨1, _⟩ => exact List.mem_cons_self
    refine ⟨_, hmem ⟨i.val % 32 / 16, by omega⟩, ?_⟩
    rw [← Rect.map_emb_univ]
    refine Finset.mem_map.mpr ⟨ix2 (⟨i.val % 16, by omega⟩ : Fin 16) (⟨j.val % 128, by omega⟩ : Fin 128), Finset.mem_univ _, ?_⟩
    refine (rectC_emb _ _ _ _ _).trans ?_
    congr 1
    · exact Fin.ext (by simp only []; omega)
    · exact Fin.ext (Nat.div_add_mod _ _)

end Weights

end Cert.KernelIdeal.Own
-- ==== Proof.Ideal.Good.lean ====
/- After the quantising loops the two arrays hold their targets on the column tiles written so far, and the array of clusters
   holds the clusters of its rows. -/
module

public import proofs.«01_k».proof.Proof.Ideal.Trips
public import proofs.«01_k».proof.Proof.Ideal.TilePoints

@[expose] public section

set_option maxRecDepth 16384

noncomputable section

namespace Cert.KernelIdeal.Own

open Cert.KernelIdeal Cert.KernelIdeal.Gen
open Idealize.ShloMosaic hiding ix1 ix2 ix3 eq_ix1 eq_ix2 eq_ix3
open Idealize.ShloMosaic.TcCoe Idealize.SL.Sem
open Idealize.ShloMosaic.ValueIdx

variable {F : FTy → Type} [FloatOps F]

/-! ## One loop -/

/-- The pieces that a quantising loop stores in its two arrays: those of its 32 trips, the last first. -/
def TripsOf (v : View sig .tc .vmem S1024x2560 .bf16) (X : BufTy.Contents (Elt F) v.ty) (lo hi : IVec S8x128 32)
    (s z s16 : FVec F S8x128 .f32) (n : Fin 20) (L : List (View.Piece (Elt F) S1024x2560 .bf16) × List (View.Piece (Elt F) S1024x2560 .bf16)) : Prop :=
  ∃ pb : ℕ → List (View.Piece (Elt F) S1024x2560 .bf16) × List (View.Piece (Elt F) S1024x2560 .bf16), pb 0 = ([], [])
    ∧ (∀ k : Fin 32, pb (k.val + 1) = (dtrip v X lo hi s z s16 n k ++ (pb k.val).1, qtrip v X lo hi s z n k ++ (pb k.val).2)) ∧ L = pb 32

/-- The pieces of a loop whose trips are known. -/
theorem TripsOf.of_trips {v : View sig .tc .vmem S1024x2560 .bf16} {X : BufTy.Contents (Elt F) v.ty} {lo hi : IVec S8x128 32}
    {s z s16 : FVec F S8x128 .f32} {n : Fin 20} (T : Fin 32 → List (View.Piece (Elt F) S1024x2560 .bf16) × List (View.Piece (Elt F) S1024x2560 .bf16))
    (pb : ℕ → List (View.Piece (Elt F) S1024x2560 .bf16) × List (View.Piece (Elt F) S1024x2560 .bf16)) (h0 : pb 0 = ([], []))
    (hs : ∀ k : Fin 32, pb (k.val + 1) = ((T k).1 ++ (pb k.val).1, (T k).2 ++ (pb k.val).2))
    (hT : ∀ k, T k = (dtrip v X lo hi s z s16 n k, qtrip v X lo hi s z n k)) : TripsOf v X lo hi s z s16 n (pb 32) :=
  ⟨pb, h0, fun k => by rw [hs k, hT k], rfl⟩

section Loop

variable {B : IVec S6 32} {S : FVec F S5 .f32} {Z : IVec S5 32} {P : IVec S20x128 32} {X : Vec F S1024x2560 .bf16}
  {v5 : View sig .tc .vmem S1024x2560 .bf16} {X5 : BufTy.Contents (Elt F) v5.ty} {n : Fin 20} {lo hi : IVec S8x128 32}
  {s z s16 : FVec F S8x128 .f32} {L : List (View.Piece (Elt F) S1024x2560 .bf16) × List (View.Piece (Elt F) S1024x2560 .bf16)}
  {v : View sig .tc .vmem S1024x2560 .bf16} {f : BufTy.Contents (Elt F) v.ty} {t : List (Fin 20)}

/-- A loop writes its column tile of the dequantised activations. -/
theorem GoodOn.fst (h5 : v5.read (Elt F) X5 = X) (hc : Chan B S Z P n lo hi s z s16) (hL : TripsOf v5 X5 lo hi s z s16 n L)
    (hf : GoodOn (DG B S Z P X) v f t) : GoodOn (DG B S Z P X) v (v.writes (Elt F) f L.1) (n :: t) := by
  obtain ⟨pb, h0, hs, rfl⟩ := hL
  refine hf.loop n (fun k r => dpay lo hi s z s16 (ldC v5 X5 k r)) (fun k r a l => ?_) (fun N => (pb N).1) (by simp only [h0]) (fun k => by
    simp only [hs k]; rfl)
  exact dpay_apply hc _ _ a l fun m l' => ldC_row h5 k r a m l'

/-- A loop writes its column tile of the codes. -/
theorem GoodOn.snd (h5 : v5.read (Elt F) X5 = X) (hc : Chan B S Z P n lo hi s z s16) (hL : TripsOf v5 X5 lo hi s z s16 n L)
    (hf : GoodOn (QG B S Z P X) v f t) : GoodOn (QG B S Z P X) v (v.writes (Elt F) f L.2) (n :: t) := by
  obtain ⟨pb, h0, hs, rfl⟩ := hL
  refine hf.loop n (fun k r => qpay lo hi s z (ldC v5 X5 k r)) (fun k r a l => ?_) (fun N => (pb N).2) (by simp only [h0]) (fun k => by
    simp only [hs k]; rfl)
  exact qpay_apply hc _ _ a l fun m l' => ldC_row h5 k r a m l'

end Loop

/-! ## The array of clusters -/

/-- Pieces of the array of clusters that hold the clusters of their rows, and reach the rows listed. -/
def CidOn (B : IVec S6 32) (L : List (View.Piece (Elt F) S20x8x128 .i32)) (t : List (Fin 20)) : Prop :=
  (∀ p ∈ L, ∀ x, p.2 x = (CG B : Vec F S20x8x128 .i32) (p.1.emb x)) ∧
  ∀ (n : Fin 20) (a : Fin 8) (l : Fin 128), n ∈ t → ∃ p ∈ L, (ix3 n a l : S20x8x128.Idx) ∈ p.1.set

theorem cidOn_nil (B : IVec S6 32) : CidOn (F := F) B [] [] :=
  ⟨fun _ h => absurd h List.not_mem_nil, fun _ _ _ h => absurd h List.not_mem_nil⟩

theorem CidOn.cons {B : IVec S6 32} {L : List (View.Piece (Elt F) S20x8x128 .i32)} {t : List (Fin 20)} (n : Fin 20) (w : IVec S8x128 32)
    (hw : ∀ (a : Fin 8) (l : Fin 128), w (ix2 a l) = cidW B (chan n l)) (h : CidOn B L t) :
    CidOn (F := F) B (⟨Rect.unit (s := S20x8x128) ![n.val, 0, 0] S1x8x128.size (offD_inb n), shapeCast S1x8x128 w shapeCasts_S8x128_S1x8x128⟩ :: L) (n :: t) := by
  have hemb : ∀ (a : Fin 8) (l : Fin 128), (Rect.unit (s := S20x8x128) ![n.val, 0, 0] S1x8x128.size (offD_inb n)).emb (ix3 (0 : Fin 1) a l) = ix3 n a l := by
    intro a l
    funext b
    refine Fin.ext ?_
    match b with
    | ⟨0, _⟩ => show n.val + 1 * 0 = n.val; omega
    | ⟨1, _⟩ => show 0 + 1 * a.val = a.val; omega
    | ⟨2, _⟩ => show 0 + 1 * l.val = l.val; omega
  refine ⟨fun p hp x => ?_, fun m a l hm => ?_⟩
  · rcases List.mem_cons.mp hp with rfl | hp
    · obtain ⟨u, a, l, rfl⟩ : ∃ (u : Fin 1) (a : Fin 8) (l : Fin 128), x = ix3 u a l := ⟨x 0, x 1, x 2, eq_ix3 x⟩
      obtain rfl : u = 0 := Subsingleton.elim _ _
      refine Eq.trans ?_ (congrArg (CG B : Vec F S20x8x128 .i32) (hemb a l).symm)
      exact (shapeCast_ab_1ab_apply w shapeCasts_S8x128_S1x8x128 0 a l).trans (hw a l)
    · exact h.1 p hp x
  · rcases List.mem_cons.mp hm with rfl | hm
    · refine ⟨_, List.mem_cons_self, ?_⟩
      rw [← Rect.map_emb_univ]
      exact Finset.mem_map.mpr ⟨ix3 (0 : Fin 1) a l, Finset.mem_univ _, hemb a l⟩
    · obtain ⟨p, hp, hx⟩ := h.2 m a l hm
      exact ⟨p, List.mem_cons_of_mem _ hp, hx⟩

/-- Pieces that reach every row leave the clusters of all. -/
theorem CidOn.all {B : IVec S6 32} {L : List (View.Piece (Elt F) S20x8x128 .i32)} {t : List (Fin 20)} (h : CidOn B L t)
    (ht : ∀ n : Fin 20, n ∈ t) (v : View sig .tc .vmem S20x8x128 .i32) (f : BufTy.Contents (Elt F) v.ty) :
    v.read (Elt F) (v.writes (Elt F) f L) = CG B := by
  funext y
  obtain ⟨n, a, l, rfl⟩ : ∃ (n : Fin 20) (a : Fin 8) (l : Fin 128), y = ix3 n a l := ⟨y 0, y 1, y 2, eq_ix3 y⟩
  exact View.read_writes_apply_of_pieces v f _ L (fun p hp x => h.1 p hp x) _ (h.2 n a l (ht n))

/-! ## The twenty loops -/

section Trips

variable (𝒱 : Variants) (c : Dev nD) (bd : Option 𝒱.V) (i : grid0.Coords)
  (arg1 : Memref sig .tc .smem S6 .i32) (harg1 : arg1.IsWhole) (arg2 : Memref sig .tc .smem S5 .f32) (harg2 : arg2.IsWhole)
  (arg3 : Memref sig .tc .smem S5 .i32) (harg3 : arg3.IsWhole) (arg4 : Memref sig .tc .vmem S20x128 .i32) (harg4 : arg4.IsWhole)
  (arg5 : Memref sig .tc .vmem S1024x2560 .bf16) (harg5 : arg5.IsWhole) (arg6 : Memref sig .tc .vmem S256x1280 .i8) (harg6 : arg6.IsWhole)
  (arg7 : Memref sig .tc .vmem S256x5 .f32) (harg7 : arg7.IsWhole) (arg8 : Memref sig .tc .vmem S256x5 .i8) (harg8 : arg8.IsWhole)
  (arg9 : Memref sig .tc .vmem S1024x256 .bf16) (harg9 : arg9.IsWhole) (arg10 : Memref sig .tc .vmem S1024x2560 .i8) (harg10 : arg10.IsWhole)
  (arg11 : Memref sig .tc .vmem S1024x2560 .bf16) (harg11 : arg11.IsWhole) (arg12 : Memref sig .tc .vmem S1024x2560 .bf16) (harg12 : arg12.IsWhole)
  (arg13 : Memref sig .tc .vmem S20x8x128 .i32) (harg13 : arg13.IsWhole)
  (k0_h1 : k0_cond1 i = 1#1) (v0 a b lo hi cid : IVec S8x128 32) (s z s16 p : FVec F S8x128 .f32) (w : BitVec 32)
  (s2 s3 s4 : Elt F .f32) (z0 z1 z2 z3 z4 : Elt F .i32) (X : BufTy.Contents (Elt F) arg5.view.ty)

theorem trips_1 : TripsOf arg5.view X lo hi s z s16 0 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X
    (Scf.trips k0_t1_loop.lb k0_t1_loop.ub k0_t1_loop.st)) :=
  .of_trips _ (fun N => pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X N) rfl (fun k => pb_k0_t1_succ ..) fun k => trip_eq_1 ..

theorem trips_2 : TripsOf arg5.view X lo hi (k0_pay611 cid p w s2 s3 s4) (k0_pay612 cid z0 z1 z2 z3 z4) (k0_pay613 cid p w s2 s3 s4) 10 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X
    (Scf.trips k0_t2_loop.lb k0_t2_loop.ub k0_t2_loop.st)) :=
  .of_trips _ (fun N => pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X N) rfl (fun k => pb_k0_t2_succ ..) fun k => trip_eq_2 ..

theorem trips_3 : TripsOf arg5.view X lo hi s z s16 1 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X
    (Scf.trips k0_t3_loop.lb k0_t3_loop.ub k0_t3_loop.st)) :=
  .of_trips _ (fun N => pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X N) rfl (fun k => pb_k0_t3_succ ..) fun k => trip_eq_3 ..

theorem trips_4 : TripsOf arg5.view X lo hi (k0_pay611 cid p w s2 s3 s4) (k0_pay612 cid z0 z1 z2 z3 z4) (k0_pay613 cid p w s2 s3 s4) 11 (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X
    (Scf.trips k0_t4_loop.lb k0_t4_loop.ub k0_t4_loop.st)) :=
  .of_trips _ (fun N => pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X N) rfl (fun k => pb_k0_t4_succ ..) fun k => trip_eq_4 ..

theorem trips_5 : TripsOf arg5.view X lo hi s z s16 2 (pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X
    (Scf.trips k0_t5_loop.lb k0_t5_loop.ub k0_t5_loop.st)) :=
  .of_trips _ (fun N => pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X N) rfl (fun k => pb_k0_t5_succ ..) fun k => trip_eq_5 ..

theorem trips_6 : TripsOf arg5.view X lo hi (k0_pay611 cid p w s2 s3 s4) (k0_pay612 cid z0 z1 z2 z3 z4) (k0_pay613 cid p w s2 s3 s4) 12 (pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X
    (Scf.trips k0_t6_loop.lb k0_t6_loop.ub k0_t6_loop.st)) :=
  .of_trips _ (fun N => pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X N) rfl (fun k => pb_k0_t6_succ ..) fun k => trip_eq_6 ..

theorem trips_7 : TripsOf arg5.view X lo hi s z s16 3 (pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X
    (Scf.trips k0_t7_loop.lb k0_t7_loop.ub k0_t7_loop.st)) :=
  .of_trips _ (fun N => pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X N) rfl (fun k => pb_k0_t7_succ ..) fun k => trip_eq_7 ..

theorem trips_8 : TripsOf arg5.view X lo hi (k0_pay611 cid p w s2 s3 s4) (k0_pay612 cid z0 z1 z2 z3 z4) (k0_pay613 cid p w s2 s3 s4) 13 (pb_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X
    (Scf.trips k0_t8_loop.lb k0_t8_loop.ub k0_t8_loop.st)) :=
  .of_trips _ (fun N => pb_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X N) rfl (fun k => pb_k0_t8_succ ..) fun k => trip_eq_8 ..

theorem trips_9 : TripsOf arg5.view X lo hi s z s16 4 (pb_k0_t9 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X
    (Scf.trips k0_t9_loop.lb k0_t9_loop.ub k0_t9_loop.st)) :=
  .of_trips _ (fun N => pb_k0_t9 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X N) rfl (fun k => pb_k0_t9_succ ..) fun k => trip_eq_9 ..

theorem trips_10 : TripsOf arg5.view X lo hi (k0_pay611 cid p w s2 s3 s4) (k0_pay612 cid z0 z1 z2 z3 z4) (k0_pay613 cid p w s2 s3 s4) 14 (pb_k0_t10 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X
    (Scf.trips k0_t10_loop.lb k0_t10_loop.ub k0_t10_loop.st)) :=
  .of_trips _ (fun N => pb_k0_t10 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X N) rfl (fun k => pb_k0_t10_succ ..) fun k => trip_eq_10 ..

theorem trips_11 : TripsOf arg5.view X lo hi s z s16 5 (pb_k0_t11 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X
    (Scf.trips k0_t11_loop.lb k0_t11_loop.ub k0_t11_loop.st)) :=
  .of_trips _ (fun N => pb_k0_t11 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X N) rfl (fun k => pb_k0_t11_succ ..) fun k => trip_eq_11 ..

theorem trips_12 : TripsOf arg5.view X lo hi (k0_pay611 cid p w s2 s3 s4) (k0_pay612 cid z0 z1 z2 z3 z4) (k0_pay613 cid p w s2 s3 s4) 15 (pb_k0_t12 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X
    (Scf.trips k0_t12_loop.lb k0_t12_loop.ub k0_t12_loop.st)) :=
  .of_trips _ (fun N => pb_k0_t12 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X N) rfl (fun k => pb_k0_t12_succ ..) fun k => trip_eq_12 ..

theorem trips_13 : TripsOf arg5.view X lo hi s z s16 6 (pb_k0_t13 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X
    (Scf.trips k0_t13_loop.lb k0_t13_loop.ub k0_t13_loop.st)) :=
  .of_trips _ (fun N => pb_k0_t13 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X N) rfl (fun k => pb_k0_t13_succ ..) fun k => trip_eq_13 ..

theorem trips_14 : TripsOf arg5.view X lo hi (k0_pay611 cid p w s2 s3 s4) (k0_pay612 cid z0 z1 z2 z3 z4) (k0_pay613 cid p w s2 s3 s4) 16 (pb_k0_t14 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X
    (Scf.trips k0_t14_loop.lb k0_t14_loop.ub k0_t14_loop.st)) :=
  .of_trips _ (fun N => pb_k0_t14 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X N) rfl (fun k => pb_k0_t14_succ ..) fun k => trip_eq_14 ..

theorem trips_15 : TripsOf arg5.view X lo hi s z s16 7 (pb_k0_t15 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X
    (Scf.trips k0_t15_loop.lb k0_t15_loop.ub k0_t15_loop.st)) :=
  .of_trips _ (fun N => pb_k0_t15 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X N) rfl (fun k => pb_k0_t15_succ ..) fun k => trip_eq_15 ..

theorem trips_16 : TripsOf arg5.view X lo hi (k0_pay611 cid p w s2 s3 s4) (k0_pay612 cid z0 z1 z2 z3 z4) (k0_pay613 cid p w s2 s3 s4) 17 (pb_k0_t16 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X
    (Scf.trips k0_t16_loop.lb k0_t16_loop.ub k0_t16_loop.st)) :=
  .of_trips _ (fun N => pb_k0_t16 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X N) rfl (fun k => pb_k0_t16_succ ..) fun k => trip_eq_16 ..

theorem trips_17 : TripsOf arg5.view X lo hi s z s16 8 (pb_k0_t17 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X
    (Scf.trips k0_t17_loop.lb k0_t17_loop.ub k0_t17_loop.st)) :=
  .of_trips _ (fun N => pb_k0_t17 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X N) rfl (fun k => pb_k0_t17_succ ..) fun k => trip_eq_17 ..

theorem trips_18 : TripsOf arg5.view X lo hi (k0_pay611 cid p w s2 s3 s4) (k0_pay612 cid z0 z1 z2 z3 z4) (k0_pay613 cid p w s2 s3 s4) 18 (pb_k0_t18 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X
    (Scf.trips k0_t18_loop.lb k0_t18_loop.ub k0_t18_loop.st)) :=
  .of_trips _ (fun N => pb_k0_t18 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X N) rfl (fun k => pb_k0_t18_succ ..) fun k => trip_eq_18 ..

theorem trips_19 : TripsOf arg5.view X lo hi s z s16 9 (pb_k0_t19 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X
    (Scf.trips k0_t19_loop.lb k0_t19_loop.ub k0_t19_loop.st)) :=
  .of_trips _ (fun N => pb_k0_t19 (F := F) 𝒱 c bd i arg1 harg1 arg2 harg2 arg3 harg3 arg4 harg4 arg5 harg5 arg6 harg6 arg7 harg7 arg8 harg8 arg9 harg9 arg10 harg10 arg11 harg11 arg12 harg12 arg13 harg13 v0 k0_h1 a b lo hi s z s16 X N) rfl (fun k => pb_k0_t19_succ ..) fun k => trip_eq_19 ..

theorem trips_20 : TripsOf arg5.view X lo hi (k0_pay611 cid p w s2 s3 s4) (k0_pay612 cid z0 z1 z2 z3 z4) (k0_pay613 cid p w s2 s3 s4) 19 (pb_k0_t20 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X
    (Scf.trips k0_t20_loop.lb k0_t20_loop.ub k0_t20_loop.st)) :=
  .of_trips _ (fun N => pb_k0_t20 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 lo hi cid p w s2 s3 s4 z0 z1 z2 z3 z4 X N) rfl (fun k => pb_k0_t20_succ ..) fun k => trip_eq_20 ..

end Trips

end Cert.KernelIdeal.Own
-- ==== Proof.Ideal.Loads.lean ====
/- The lane tables of a tile, from the memory the kernel loads the permutation and the tables of five from. -/
module

public import proofs.«01_k».proof.Proof.Ideal.Good

@[expose] public section

set_option maxRecDepth 16384

noncomputable section

namespace Cert.KernelIdeal.Own

open Cert.KernelIdeal Cert.KernelIdeal.Gen
open Idealize.ShloMosaic hiding ix1 ix2 ix3 eq_ix1 eq_ix2 eq_ix3
open Idealize.SL.Sem
open Idealize.ShloMosaic.ValueIdx

variable {F : FTy → Type} [FloatOps F]

theorem off6_inb (j : Fin 6) : ∀ a, (![j.val] : Fin 1 → Nat) a + S1.size a ≤ S6.size a := by
  intro a
  match a with
  | ⟨0, _⟩ => show j.val + 1 ≤ 6; omega

theorem off5_inb (j : Fin 5) : ∀ a, (![j.val] : Fin 1 → Nat) a + S1.size a ≤ S5.size a := by
  intro a
  match a with
  | ⟨0, _⟩ => show j.val + 1 ≤ 5; omega

theorem offP_inb (j : Fin 20) : ∀ a, (![j.val, 0] : Fin 2 → Nat) a + S1x128.size a ≤ S20x128.size a := by
  intro a
  match a with
  | ⟨0, _⟩ => show j.val + 1 ≤ 20; omega
  | ⟨1, _⟩ => show 0 + 128 ≤ 128; omega

section

variable {arg1 : Memref sig .tc .smem S6 .i32} (harg1 : arg1.IsWhole) {arg2 : Memref sig .tc .smem S5 .f32} (harg2 : arg2.IsWhole)
  {arg3 : Memref sig .tc .smem S5 .i32} (harg3 : arg3.IsWhole) {arg4 : Memref sig .tc .vmem S20x128 .i32} (harg4 : arg4.IsWhole)
  (x0 : Vec F S6 .i32) (x1 : Vec F S5 .f32) (x2 : Vec F S5 .i32) (x3 : Vec F S20x128 .i32)

/-- A bound, as loaded. -/
def ldB (j : Fin 6) : BitVec 32 :=
  arg1.view.readAt (Elt F) (Rect.unit (s := S6) ![j.val] S1.size (off6_inb j)).toLoadRect (harg1.unread x0) (Shape.Idx.first (s := S1) (by decide))

/-- A scale, as loaded. -/
def ldS (j : Fin 5) : F .f32 :=
  arg2.view.readAt (Elt F) (Rect.unit (s := S5) ![j.val] S1.size (off5_inb j)).toLoadRect (harg2.unread x1) (Shape.Idx.first (s := S1) (by decide))

/-- A zero point, as loaded. -/
def ldZ (j : Fin 5) : BitVec 32 :=
  arg3.view.readAt (Elt F) (Rect.unit (s := S5) ![j.val] S1.size (off5_inb j)).toLoadRect (harg3.unread x2) (Shape.Idx.first (s := S1) (by decide))

/-- A row of the permutation, as loaded. -/
def ldP (j : Fin 20) : IVec S1x128 32 :=
  arg4.view.readAt (Elt F) (Rect.unit (s := S20x128) ![j.val, 0] S1x128.size (offP_inb j)).toLoadRect (harg4.unread x3)

theorem ldB_eq (j : Fin 6) : ldB harg1 x0 j = (x0 : IVec S6 32) (ix1 j) := by
  unfold ldB
  show arg1.view.read (Elt F) (harg1.unread x0) _ = _
  rw [harg1.read_unread]
  refine congrArg x0 (funext fun b => Fin.ext ?_)
  match b with
  | ⟨0, _⟩ => show j.val + 1 * 0 = j.val; omega

theorem ldS_eq (j : Fin 5) : ldS harg2 x1 j = (x1 : FVec F S5 .f32) (ix1 j) := by
  unfold ldS
  show arg2.view.read (Elt F) (harg2.unread x1) _ = _
  rw [harg2.read_unread]
  refine congrArg x1 (funext fun b => Fin.ext ?_)
  match b with
  | ⟨0, _⟩ => show j.val + 1 * 0 = j.val; omega

theorem ldZ_eq (j : Fin 5) : ldZ harg3 x2 j = (x2 : IVec S5 32) (ix1 j) := by
  unfold ldZ
  show arg3.view.read (Elt F) (harg3.unread x2) _ = _
  rw [harg3.read_unread]
  refine congrArg x2 (funext fun b => Fin.ext ?_)
  match b with
  | ⟨0, _⟩ => show j.val + 1 * 0 = j.val; omega

theorem ldP_eq (j : Fin 20) (l : Fin 128) : ldP harg4 x3 j (ix2 (0 : Fin 1) l) = (x3 : IVec S20x128 32) (ix2 j l) := by
  unfold ldP
  show arg4.view.read (Elt F) (harg4.unread x3) _ = _
  rw [harg4.read_unread]
  refine congrArg x3 (funext fun b => Fin.ext ?_)
  match b with
  | ⟨0, _⟩ => show j.val + 1 * 0 = j.val; omega
  | ⟨1, _⟩ => show 0 + 1 * l.val = l.val; omega

/-- The clusters of a tile's lanes, from the bounds as loaded. -/
def cidL (a par : BitVec 32) : IVec S8x128 32 :=
  cidV (posV laneV a par) (ldB harg1 x0 0) (ldB harg1 x0 1) (ldB harg1 x0 2) (ldB harg1 x0 3) (ldB harg1 x0 4) (ldB harg1 x0 5)

theorem cid_of (n : Fin 20) (a par : BitVec 32) (ha : a = BitVec.ofNat 32 (128 * (n.val % 10))) (hpar : par = BitVec.ofNat 32 (n.val / 10))
    (r : Fin 8) (l : Fin 128) : cidL harg1 x0 a par (ix2 r l) = cidW x0 (chan n l) := by
  unfold cidL
  rw [ldB_eq, ldB_eq, ldB_eq, ldB_eq, ldB_eq, ldB_eq, ha, hpar]
  exact cidV_apply x0 n r l

/-- The tables of a tile, from the loads, are the ones `Chan` asks for. -/
theorem chan_of (n : Fin 20) (r0 r1 : Fin 20) (a par : BitVec 32) (ha : a = BitVec.ofNat 32 (128 * (n.val % 10)))
    (hpar : par = BitVec.ofNat 32 (n.val / 10)) (hr0 : r0.val = 2 * (n.val % 10)) (hr1 : r1.val = 2 * (n.val % 10) + 1) :
    Chan x0 x1 x2 x3 n (loV laneV (rowV (ldP harg4 x3 r0)) (rowV (ldP harg4 x3 r1)) par)
      (hiV laneV (rowV (ldP harg4 x3 r0)) (rowV (ldP harg4 x3 r1)) par)
      (pickV (cidL harg1 x0 a par) (ldS harg2 x1 0) (ldS harg2 x1 1) (ldS harg2 x1 2) (ldS harg2 x1 3) (ldS harg2 x1 4))
      (zV (cidL harg1 x0 a par) (ldZ harg3 x2 0) (ldZ harg3 x2 1) (ldZ harg3 x2 2) (ldZ harg3 x2 3) (ldZ harg3 x2 4))
      (s16V (pickV (cidL harg1 x0 a par) (ldS harg2 x1 0) (ldS harg2 x1 1) (ldS harg2 x1 2) (ldS harg2 x1 3) (ldS harg2 x1 4))) := by
  rw [ldS_eq, ldS_eq, ldS_eq, ldS_eq, ldS_eq, ldZ_eq, ldZ_eq, ldZ_eq, ldZ_eq, ldZ_eq]
  have hc := cid_of harg1 x0 n a par ha hpar
  subst hpar
  refine chan_mk x0 x1 x2 x3 n _ _ (fun l => ?_) (fun l => ?_) _ hc
  · rw [ldP_eq]; congr 2; exact Fin.ext hr0
  · rw [ldP_eq]; congr 2; exact Fin.ext hr1

end

section

variable {B : IVec S6 32} {S : FVec F S5 .f32} {Z : IVec S5 32} {P : IVec S20x128 32} {X : Vec F S1024x2560 .bf16}

theorem GoodOn.fst_append {v5 : View sig .tc .vmem S1024x2560 .bf16} {X5 : BufTy.Contents (Elt F) v5.ty} {n : Fin 20} {lo hi : IVec S8x128 32}
    {s z s16 : FVec F S8x128 .f32} {L : List (View.Piece (Elt F) S1024x2560 .bf16) × List (View.Piece (Elt F) S1024x2560 .bf16)}
    {v : View sig .tc .vmem S1024x2560 .bf16} {f : BufTy.Contents (Elt F) v.ty} {t : List (Fin 20)} {L' : List (View.Piece (Elt F) S1024x2560 .bf16)}
    (h5 : v5.read (Elt F) X5 = X) (hc : Chan B S Z P n lo hi s z s16) (hL : TripsOf v5 X5 lo hi s z s16 n L)
    (hf : GoodOn (DG B S Z P X) v (v.writes (Elt F) f L') t) : GoodOn (DG B S Z P X) v (v.writes (Elt F) f (L.1 ++ L')) (n :: t) := by
  rw [View.writes_append]
  exact hf.fst h5 hc hL

theorem GoodOn.snd_append {v5 : View sig .tc .vmem S1024x2560 .bf16} {X5 : BufTy.Contents (Elt F) v5.ty} {n : Fin 20} {lo hi : IVec S8x128 32}
    {s z s16 : FVec F S8x128 .f32} {L : List (View.Piece (Elt F) S1024x2560 .bf16) × List (View.Piece (Elt F) S1024x2560 .bf16)}
    {v : View sig .tc .vmem S1024x2560 .bf16} {f : BufTy.Contents (Elt F) v.ty} {t : List (Fin 20)} {L' : List (View.Piece (Elt F) S1024x2560 .bf16)}
    (h5 : v5.read (Elt F) X5 = X) (hc : Chan B S Z P n lo hi s z s16) (hL : TripsOf v5 X5 lo hi s z s16 n L)
    (hf : GoodOn (QG B S Z P X) v (v.writes (Elt F) f L') t) : GoodOn (QG B S Z P X) v (v.writes (Elt F) f (L.2 ++ L')) (n :: t) := by
  rw [View.writes_append]
  exact hf.snd h5 hc hL

variable (𝒱 : Variants) (c : Dev nD) (bd : Option 𝒱.V) (i : grid0.Coords)
  (arg1 : Memref sig .tc .smem S6 .i32) (harg1 : arg1.IsWhole) (arg2 : Memref sig .tc .smem S5 .f32) (harg2 : arg2.IsWhole)
  (arg3 : Memref sig .tc .smem S5 .i32) (harg3 : arg3.IsWhole) (arg4 : Memref sig .tc .vmem S20x128 .i32) (harg4 : arg4.IsWhole)
  (arg5 : Memref sig .tc .vmem S1024x2560 .bf16) (harg5 : arg5.IsWhole) (arg6 : Memref sig .tc .vmem S256x1280 .i8) (harg6 : arg6.IsWhole)
  (arg7 : Memref sig .tc .vmem S256x5 .f32) (harg7 : arg7.IsWhole) (arg8 : Memref sig .tc .vmem S256x5 .i8) (harg8 : arg8.IsWhole)
  (arg9 : Memref sig .tc .vmem S1024x256 .bf16) (harg9 : arg9.IsWhole) (arg10 : Memref sig .tc .vmem S1024x2560 .i8) (harg10 : arg10.IsWhole)
  (arg11 : Memref sig .tc .vmem S1024x2560 .bf16) (harg11 : arg11.IsWhole) (arg12 : Memref sig .tc .vmem S1024x2560 .bf16) (harg12 : arg12.IsWhole)
  (arg13 : Memref sig .tc .vmem S20x8x128 .i32) (harg13 : arg13.IsWhole)

/-- The loop over the codes leaves them in channel order. -/
theorem emit_21 (k0_h1 : k0_cond1 i = 1#1) {X12 : BufTy.Contents (Elt F) arg12.view.ty} (hX : arg12.view.read (Elt F) X12 = QG B S Z P X)
    (f : BufTy.Contents (Elt F) arg10.view.ty) :
    arg10.view.read (Elt F) (arg10.view.writes (Elt F) f (pb_k0_t21 (F := F) 𝒱 c bd i arg1 harg1 arg2 harg2 arg3 harg3 arg4 harg4 arg5 harg5 arg6 harg6 arg7 harg7 arg8 harg8 arg9 harg9 arg10 harg10 arg11 harg11 arg12 harg12 arg13 harg13 laneV k0_h1 X12
      (Scf.trips k0_t21_loop.lb k0_t21_loop.ub k0_t21_loop.st))) = XG B S Z P X :=
  emit_loop hX arg10.view f (fun N => pb_k0_t21 (F := F) 𝒱 c bd i arg1 harg1 arg2 harg2 arg3 harg3 arg4 harg4 arg5 harg5 arg6 harg6 arg7 harg7 arg8 harg8 arg9 harg9 arg10 harg10 arg11 harg11 arg12 harg12 arg13 harg13 laneV k0_h1 X12 N) rfl
    fun k => (pb_k0_t21_succ ..).trans (congrArg (· ++ _) (trip_eq_21 ..))

/-- The loop over the weights leaves them dequantised in the first 256 rows. -/
theorem weights_22 {X6 : BufTy.Contents (Elt F) arg6.view.ty} {X7 : BufTy.Contents (Elt F) arg7.view.ty} {X8 : BufTy.Contents (Elt F) arg8.view.ty}
    {X13 : BufTy.Contents (Elt F) arg13.view.ty} {W6 : Vec F S256x1280 .i8} {W7 : Vec F S256x5 .f32} {W8 : Vec F S256x5 .i8}
    (h6 : arg6.view.read (Elt F) X6 = W6) (h7 : arg7.view.read (Elt F) X7 = W7) (h8 : arg8.view.read (Elt F) X8 = W8)
    (h13 : arg13.view.read (Elt F) X13 = CG B) (f : BufTy.Contents (Elt F) arg12.view.ty) (inb : ∀ a, (![0, 0] : Fin 2 → Nat) a + S256x2560.size a ≤ S1024x2560.size a) :
    arg12.view.readAt (Elt F) (Rect.unit (s := S1024x2560) ![0, 0] S256x2560.size inb).toLoadRect
      (arg12.view.writes (Elt F) f (pb_k0_t22 (F := F) 𝒱 c bd i arg1 harg1 arg2 harg2 arg3 harg3 arg4 harg4 arg5 harg5 arg6 harg6 arg7 harg7 arg8 harg8 arg9 harg9 arg10 harg10 arg11 harg11 arg12 harg12 arg13 harg13 X6 X7 X8 X13
        (Scf.trips k0_t22_loop.lb k0_t22_loop.ub k0_t22_loop.st))) = WG B W6 W7 W8 := by
  funext y
  obtain ⟨a, b, rfl⟩ : ∃ (a : Fin 256) (b : Fin 2560), y = ix2 a b := ⟨y 0, y 1, eq_ix2 y⟩
  refine Eq.trans ?_ (weights_loop h6 h7 h8 h13 arg12.view f (fun N => pb_k0_t22 (F := F) 𝒱 c bd i arg1 harg1 arg2 harg2 arg3 harg3 arg4 harg4 arg5 harg5 arg6 harg6 arg7 harg7 arg8 harg8 arg9 harg9 arg10 harg10 arg11 harg11 arg12 harg12 arg13 harg13 X6 X7 X8 X13 N) rfl
    (fun k => (pb_k0_t22_succ ..).trans (congrArg (· ++ _) (trip_eq_22 ..))) a b)
  refine congrArg (arg12.view.read (Elt F) _) (funext fun d => Fin.ext ?_)
  match d with
  | ⟨0, _⟩ => show 0 + 1 * a.val = a.val; omega
  | ⟨1, _⟩ => show 0 + 1 * b.val = b.val; omega

/-- A store of the whole output block leaves what was stored. -/
theorem read_writes_whole (v : View sig .tc .vmem S1024x256 .bf16) (f : BufTy.Contents (Elt F) v.ty)
    (inb : ∀ a, (![0, 0] : Fin 2 → Nat) a + S1024x256.size a ≤ S1024x256.size a) (w : Vec F S1024x256 .bf16) :
    v.read (Elt F) (v.writes (Elt F) f [⟨Rect.unit (s := S1024x256) ![0, 0] S1024x256.size inb, w⟩]) = w := by
  have he : ∀ x : S1024x256.Idx, (Rect.unit (s := S1024x256) ![0, 0] S1024x256.size inb).emb x = x := by
    intro x
    funext b
    refine Fin.ext ?_
    match b with
    | ⟨0, _⟩ => show 0 + 1 * (x 0).val = (x 0).val; omega
    | ⟨1, _⟩ => show 0 + 1 * (x 1).val = (x 1).val; omega
  funext y
  refine View.read_writes_apply_of_pieces v f w _ (fun p hp x => ?_) y ⟨_, List.mem_cons_self, ?_⟩
  · obtain rfl := List.mem_singleton.mp hp
    exact congrArg w (he x).symm
  · rw [← Rect.map_emb_univ]
    exact Finset.mem_map.mpr ⟨y, Finset.mem_univ _, he y⟩

/-- A load of the whole array is its contents. -/
theorem readAt_whole {v : View sig .tc .vmem S1024x2560 .bf16} {f : BufTy.Contents (Elt F) v.ty} {G : Vec F S1024x2560 .bf16}
    (inb : ∀ a, (![0, 0] : Fin 2 → Nat) a + S1024x2560.size a ≤ S1024x2560.size a) (h : v.read (Elt F) f = G) :
    v.readAt (Elt F) (Rect.unit (s := S1024x2560) ![0, 0] S1024x2560.size inb).toLoadRect f = G := by
  subst h
  funext x
  refine congrArg (v.read (Elt F) f) (funext fun b => Fin.ext ?_)
  match b with
  | ⟨0, _⟩ => show 0 + 1 * (x 0).val = (x 0).val; omega
  | ⟨1, _⟩ => show 0 + 1 * (x 1).val = (x 1).val; omega

/-- The output block of a grid point: the dequantised activations times the block's dequantised weights. -/
def YG (B : IVec S6 32) (D : Vec F S1024x2560 .bf16) (W6 : Vec F S256x1280 .i8) (W7 : Vec F S256x5 .f32) (W8 : Vec F S256x5 .i8) :
    Vec F S1024x256 .bf16 := k0_pay3 D (WG B W6 W7 W8)

end

end Cert.KernelIdeal.Own
-- ==== Proof.Ideal.Runs.lean ====
/- The ideal program: the branch condition by grid point, the staging buffers, and the scoped buffers a point owns. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle is checked by a recursion, one step per coordinate of the long axes
set_option maxRecDepth 16384

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The body's branch condition, from the grid coordinates. -/
abbrev cond0_0 (i : grid0.Coords) : Prop := k0_cond1 i = 1#1
/-- It holds at the first point only — by arithmetic of the point. -/
theorem hcond0_0 : ∀ t : Fin cfg0.N, cond0_0 (grid0.coords t) ↔ t.val % 27 = 0 :=
  (fun t => by
    have ht : t.val < 27 := Nat.lt_of_lt_of_eq t.isLt N_0
    have e0 : (grid0.coords t 0).val = t.val / 1 % 27 := Pipeline.Grid.coords_val t 0 (by decide) rfl
    simp only [cond0_0, k0_cond1, e0]
    word_cmp
   : ∀ t : Fin grid0.N, cond0_0 (grid0.coords t) ↔ t.val % 27 = 0)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- The product's window is never idle. -/
theorem liveAt0_8 : ∀ t : Fin cfg0.N, cfg0.idle 8 (grid0.coords t) = false := fun _ => rfl
/-! ## The buffers the body is passed -/

/-- Each window's current staging memref at point `t`, spelled as the pipeline passes it (`bodyAt0`), and its wholeness. -/
abbrev ms0_0 (t : Fin cfg0.N) : Memref sig .tc .smem S6 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S5 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S5 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S20x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2560 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1280 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x5 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x5 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x2560 .i8 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1024x2560 .bf16 := Memref.whole cc0_scratch0
abbrev scM0_1 : Memref sig .tc .vmem S1024x2560 .bf16 := Memref.whole cc0_scratch1
abbrev scM0_2 : Memref sig .tc .vmem S20x8x128 .i32 := Memref.whole cc0_scratch2
/-- The scratch `arg13` the kernel carries between points, as a view: what it holds is stated through it. -/
abbrev VS0_2 : View sig .tc .vmem S20x8x128 .i32 := scM0_2.view

/-- The scoped buffers the region starts with, as the scratch operands owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Own

end
-- ==== Proof.Ideal.RunA.lean ====
/- The body of the kernel at the first grid point. -/
module

public import proofs.«01_k».proof.Proof.Ideal.Loads
public import proofs.«01_k».proof.Proof.Ideal.Runs

@[expose] public section

set_option maxRecDepth 16384

noncomputable section

namespace Cert.KernelIdeal.Own

open Cert.KernelIdeal Cert.KernelIdeal.Gen
open Idealize.ShloMosaic hiding ix1 ix2 ix3 eq_ix1 eq_ix2 eq_ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

set_option maxHeartbeats 4604000 in
/-- At the first point the body writes the output block, the codes, the dequantised activations and the clusters. -/
theorem bodyA (c : Dev nD) (i : grid0.Coords) (arg1 : Memref sig .tc .smem S6 .i32) (harg1 : arg1.IsWhole) (arg2 : Memref sig .tc .smem S5 .f32) (harg2 : arg2.IsWhole) (arg3 : Memref sig .tc .smem S5 .i32) (harg3 : arg3.IsWhole) (arg4 : Memref sig .tc .vmem S20x128 .i32) (harg4 : arg4.IsWhole) (arg5 : Memref sig .tc .vmem S1024x2560 .bf16) (harg5 : arg5.IsWhole) (arg6 : Memref sig .tc .vmem S256x1280 .i8) (harg6 : arg6.IsWhole) (arg7 : Memref sig .tc .vmem S256x5 .f32) (harg7 : arg7.IsWhole) (arg8 : Memref sig .tc .vmem S256x5 .i8) (harg8 : arg8.IsWhole) (arg9 : Memref sig .tc .vmem S1024x256 .bf16) (harg9 : arg9.IsWhole) (arg10 : Memref sig .tc .vmem S1024x2560 .i8) (harg10 : arg10.IsWhole) (arg11 : Memref sig .tc .vmem S1024x2560 .bf16) (harg11 : arg11.IsWhole) (arg12 : Memref sig .tc .vmem S1024x2560 .bf16) (harg12 : arg12.IsWhole) (arg13 : Memref sig .tc .vmem S20x8x128 .i32) (harg13 : arg13.IsWhole) (hc0 : cond0_0 i)
    (x0 : Vec F S6 .i32) (x1 : Vec F S5 .f32) (x2 : Vec F S5 .i32) (x3 : Vec F S20x128 .i32) (x4 : Vec F S1024x2560 .bf16) (x5 : Vec F S256x1280 .i8) (x6 : Vec F S256x5 .f32) (x7 : Vec F S256x5 .i8)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (YG x0 (DG x0 x1 x2 x3 x4) x5 x6 x7) ∗ owns (c : Thread nD τ) arg10 fullShare (XG x0 x1 x2 x3 x4) ∗ owns (c : Thread nD τ) arg11 fullShare (DG x0 x1 x2 x3 x4) ∗ (∃ d, owns (c : Thread nD τ) arg12 fullShare d) ∗ owns (c : Thread nD τ) arg13 fullShare (CG x0)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
    simp only [cc0__body_eq_skeleton]; unfold cc0__body_skel
    simp only [k0_part270_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    have hC : ∀ n : Fin 20, _ := fun n => chan_of harg1 harg2 harg3 harg4 x0 x1 x2 x3 n ⟨2 * (n.val % 10), by omega⟩ ⟨2 * (n.val % 10) + 1, by omega⟩
        (BitVec.ofNat 32 (128 * (n.val % 10))) (BitVec.ofNat 32 (n.val / 10)) rfl rfl rfl rfl
    have hI : ∀ n : Fin 20, _ := fun n => cid_of harg1 x0 n (BitVec.ofNat 32 (128 * (n.val % 10))) (BitVec.ofNat 32 (n.val / 10)) rfl rfl
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap; · iexact H8
      ipureintro
      clear * - hC hI
      refine (read_writes_whole arg9.view _ _ _).trans (congrArg₂ k0_pay3 (readAt_whole _ ?_) ?_)
      · clear hI
        refine GoodOn.all (t := [19, 9, 18, 8, 17, 7, 16, 6, 15, 5, 14, 4, 13, 3, 12, 2, 11, 1, 10, 0]) ?_ (by decide +kernel)
        refine GoodOn.fst_append (harg5.read_unread x4) (hC 19) (trips_20 ..) ?_
        refine GoodOn.fst_append (harg5.read_unread x4) (hC 9) (trips_19 ..) ?_
        refine GoodOn.fst_append (harg5.read_unread x4) (hC 18) (trips_18 ..) ?_
        refine GoodOn.fst_append (harg5.read_unread x4) (hC 8) (trips_17 ..) ?_
        refine GoodOn.fst_append (harg5.read_unread x4) (hC 17) (trips_16 ..) ?_
        refine GoodOn.fst_append (harg5.read_unread x4) (hC 7) (trips_15 ..) ?_
        refine GoodOn.fst_append (harg5.read_unread x4) (hC 16) (trips_14 ..) ?_
        refine GoodOn.fst_append (harg5.read_unread x4) (hC 6) (trips_13 ..) ?_
        refine GoodOn.fst_append (harg5.read_unread x4) (hC 15) (trips_12 ..) ?_
        refine GoodOn.fst_append (harg5.read_unread x4) (hC 5) (trips_11 ..) ?_
        refine GoodOn.fst_append (harg5.read_unread x4) (hC 14) (trips_10 ..) ?_
        refine GoodOn.fst_append (harg5.read_unread x4) (hC 4) (trips_9 ..) ?_
        refine GoodOn.fst_append (harg5.read_unread x4) (hC 13) (trips_8 ..) ?_
        refine GoodOn.fst_append (harg5.read_unread x4) (hC 3) (trips_7 ..) ?_
        refine GoodOn.fst_append (harg5.read_unread x4) (hC 12) (trips_6 ..) ?_
        refine GoodOn.fst_append (harg5.read_unread x4) (hC 2) (trips_5 ..) ?_
        refine GoodOn.fst_append (harg5.read_unread x4) (hC 11) (trips_4 ..) ?_
        refine GoodOn.fst_append (harg5.read_unread x4) (hC 1) (trips_3 ..) ?_
        refine GoodOn.fst_append (harg5.read_unread x4) (hC 10) (trips_2 ..) ?_
        exact GoodOn.fst (harg5.read_unread x4) (hC 0) (trips_1 ..) (goodOn_nil _ _ _)
      · clear hC
        unfold bodyA.sl.v6
        refine (congrArg _ (View.writes_append ..)).trans (weights_22 (h6 := harg6.read_unread x5)
          (h7 := harg7.read_unread x6) (h8 := harg8.read_unread x7) (h13 := ?_) ..)
        refine CidOn.all (t := [19, 9, 18, 8, 17, 7, 16, 6, 15, 5, 14, 4, 13, 3, 12, 2, 11, 1, 10, 0]) ?_ (by decide +kernel) _ _
        refine CidOn.cons 19 _ (hI 19) ?_
        refine CidOn.cons 9 _ (hI 9) ?_
        refine CidOn.cons 18 _ (hI 18) ?_
        refine CidOn.cons 8 _ (hI 8) ?_
        refine CidOn.cons 17 _ (hI 17) ?_
        refine CidOn.cons 7 _ (hI 7) ?_
        refine CidOn.cons 16 _ (hI 16) ?_
        refine CidOn.cons 6 _ (hI 6) ?_
        refine CidOn.cons 15 _ (hI 15) ?_
        refine CidOn.cons 5 _ (hI 5) ?_
        refine CidOn.cons 14 _ (hI 14) ?_
        refine CidOn.cons 4 _ (hI 4) ?_
        refine CidOn.cons 13 _ (hI 13) ?_
        refine CidOn.cons 3 _ (hI 3) ?_
        refine CidOn.cons 12 _ (hI 12) ?_
        refine CidOn.cons 2 _ (hI 2) ?_
        refine CidOn.cons 11 _ (hI 11) ?_
        refine CidOn.cons 1 _ (hI 1) ?_
        refine CidOn.cons 10 _ (hI 10) ?_
        refine CidOn.cons 0 _ (hI 0) ?_
        exact cidOn_nil x0
    isplitl [H9]
    · iexists _; isplitr; swap; · iexact H9
      ipureintro; clear * - hC
      refine emit_21 (hX := ?_) ..
      refine GoodOn.all (t := [19, 9, 18, 8, 17, 7, 16, 6, 15, 5, 14, 4, 13, 3, 12, 2, 11, 1, 10, 0]) ?_ (by decide +kernel)
      refine GoodOn.snd_append (harg5.read_unread x4) (hC 19) (trips_20 ..) ?_
      refine GoodOn.snd_append (harg5.read_unread x4) (hC 9) (trips_19 ..) ?_
      refine GoodOn.snd_append (harg5.read_unread x4) (hC 18) (trips_18 ..) ?_
      refine GoodOn.snd_append (harg5.read_unread x4) (hC 8) (trips_17 ..) ?_
      refine GoodOn.snd_append (harg5.read_unread x4) (hC 17) (trips_16 ..) ?_
      refine GoodOn.snd_append (harg5.read_unread x4) (hC 7) (trips_15 ..) ?_
      refine GoodOn.snd_append (harg5.read_unread x4) (hC 16) (trips_14 ..) ?_
      refine GoodOn.snd_append (harg5.read_unread x4) (hC 6) (trips_13 ..) ?_
      refine GoodOn.snd_append (harg5.read_unread x4) (hC 15) (trips_12 ..) ?_
      refine GoodOn.snd_append (harg5.read_unread x4) (hC 5) (trips_11 ..) ?_
      refine GoodOn.snd_append (harg5.read_unread x4) (hC 14) (trips_10 ..) ?_
      refine GoodOn.snd_append (harg5.read_unread x4) (hC 4) (trips_9 ..) ?_
      refine GoodOn.snd_append (harg5.read_unread x4) (hC 13) (trips_8 ..) ?_
      refine GoodOn.snd_append (harg5.read_unread x4) (hC 3) (trips_7 ..) ?_
      refine GoodOn.snd_append (harg5.read_unread x4) (hC 12) (trips_6 ..) ?_
      refine GoodOn.snd_append (harg5.read_unread x4) (hC 2) (trips_5 ..) ?_
      refine GoodOn.snd_append (harg5.read_unread x4) (hC 11) (trips_4 ..) ?_
      refine GoodOn.snd_append (harg5.read_unread x4) (hC 1) (trips_3 ..) ?_
      refine GoodOn.snd_append (harg5.read_unread x4) (hC 10) (trips_2 ..) ?_
      exact GoodOn.snd (harg5.read_unread x4) (hC 0) (trips_1 ..) (goodOn_nil _ _ _)
    isplitl [HS0]
    · iexists _; isplitr; swap; · iexact HS0
      ipureintro; clear * - hC
      refine GoodOn.all (t := [19, 9, 18, 8, 17, 7, 16, 6, 15, 5, 14, 4, 13, 3, 12, 2, 11, 1, 10, 0]) ?_ (by decide +kernel)
      refine GoodOn.fst_append (harg5.read_unread x4) (hC 19) (trips_20 ..) ?_
      refine GoodOn.fst_append (harg5.read_unread x4) (hC 9) (trips_19 ..) ?_
      refine GoodOn.fst_append (harg5.read_unread x4) (hC 18) (trips_18 ..) ?_
      refine GoodOn.fst_append (harg5.read_unread x4) (hC 8) (trips_17 ..) ?_
      refine GoodOn.fst_append (harg5.read_unread x4) (hC 17) (trips_16 ..) ?_
      refine GoodOn.fst_append (harg5.read_unread x4) (hC 7) (trips_15 ..) ?_
      refine GoodOn.fst_append (harg5.read_unread x4) (hC 16) (trips_14 ..) ?_
      refine GoodOn.fst_append (harg5.read_unread x4) (hC 6) (trips_13 ..) ?_
      refine GoodOn.fst_append (harg5.read_unread x4) (hC 15) (trips_12 ..) ?_
      refine GoodOn.fst_append (harg5.read_unread x4) (hC 5) (trips_11 ..) ?_
      refine GoodOn.fst_append (harg5.read_unread x4) (hC 14) (trips_10 ..) ?_
      refine GoodOn.fst_append (harg5.read_unread x4) (hC 4) (trips_9 ..) ?_
      refine GoodOn.fst_append (harg5.read_unread x4) (hC 13) (trips_8 ..) ?_
      refine GoodOn.fst_append (harg5.read_unread x4) (hC 3) (trips_7 ..) ?_
      refine GoodOn.fst_append (harg5.read_unread x4) (hC 12) (trips_6 ..) ?_
      refine GoodOn.fst_append (harg5.read_unread x4) (hC 2) (trips_5 ..) ?_
      refine GoodOn.fst_append (harg5.read_unread x4) (hC 11) (trips_4 ..) ?_
      refine GoodOn.fst_append (harg5.read_unread x4) (hC 1) (trips_3 ..) ?_
      refine GoodOn.fst_append (harg5.read_unread x4) (hC 10) (trips_2 ..) ?_
      exact GoodOn.fst (harg5.read_unread x4) (hC 0) (trips_1 ..) (goodOn_nil _ _ _)
    isplitl [HS1]
    · iexists _, _; isplitr; swap; · iexact HS1
      ipureintro; rfl
    · iexists _; isplitr; swap; · iexact HS2
      ipureintro; clear * - hI
      refine CidOn.all (t := [19, 9, 18, 8, 17, 7, 16, 6, 15, 5, 14, 4, 13, 3, 12, 2, 11, 1, 10, 0]) ?_ (by decide +kernel) _ _
      refine CidOn.cons 19 _ (hI 19) ?_
      refine CidOn.cons 9 _ (hI 9) ?_
      refine CidOn.cons 18 _ (hI 18) ?_
      refine CidOn.cons 8 _ (hI 8) ?_
      refine CidOn.cons 17 _ (hI 17) ?_
      refine CidOn.cons 7 _ (hI 7) ?_
      refine CidOn.cons 16 _ (hI 16) ?_
      refine CidOn.cons 6 _ (hI 6) ?_
      refine CidOn.cons 15 _ (hI 15) ?_
      refine CidOn.cons 5 _ (hI 5) ?_
      refine CidOn.cons 14 _ (hI 14) ?_
      refine CidOn.cons 4 _ (hI 4) ?_
      refine CidOn.cons 13 _ (hI 13) ?_
      refine CidOn.cons 3 _ (hI 3) ?_
      refine CidOn.cons 12 _ (hI 12) ?_
      refine CidOn.cons 2 _ (hI 2) ?_
      refine CidOn.cons 11 _ (hI 11) ?_
      refine CidOn.cons 1 _ (hI 1) ?_
      refine CidOn.cons 10 _ (hI 10) ?_
      refine CidOn.cons 0 _ (hI 0) ?_
      exact cidOn_nil x0

end Cert.KernelIdeal.Own
-- ==== Proof.Ideal.RunB.lean ====
/- The body of the kernel at every later grid point. -/
module

public import proofs.«01_k».proof.Proof.Ideal.Loads
public import proofs.«01_k».proof.Proof.Ideal.Runs

@[expose] public section

set_option maxRecDepth 16384

noncomputable section

namespace Cert.KernelIdeal.Own

open Cert.KernelIdeal Cert.KernelIdeal.Gen
open Idealize.ShloMosaic hiding ix1 ix2 ix3 eq_ix1 eq_ix2 eq_ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

set_option maxHeartbeats 1000000 in
/-- At a later point the body writes the output block from the dequantised activations and the clusters that the first
    point left, and changes neither them nor the codes. -/
theorem bodyB (c : Dev nD) (i : grid0.Coords) (arg1 : Memref sig .tc .smem S6 .i32) (harg1 : arg1.IsWhole) (arg2 : Memref sig .tc .smem S5 .f32) (harg2 : arg2.IsWhole) (arg3 : Memref sig .tc .smem S5 .i32) (harg3 : arg3.IsWhole) (arg4 : Memref sig .tc .vmem S20x128 .i32) (harg4 : arg4.IsWhole) (arg5 : Memref sig .tc .vmem S1024x2560 .bf16) (harg5 : arg5.IsWhole) (arg6 : Memref sig .tc .vmem S256x1280 .i8) (harg6 : arg6.IsWhole) (arg7 : Memref sig .tc .vmem S256x5 .f32) (harg7 : arg7.IsWhole) (arg8 : Memref sig .tc .vmem S256x5 .i8) (harg8 : arg8.IsWhole) (arg9 : Memref sig .tc .vmem S1024x256 .bf16) (harg9 : arg9.IsWhole) (arg10 : Memref sig .tc .vmem S1024x2560 .i8) (harg10 : arg10.IsWhole) (arg11 : Memref sig .tc .vmem S1024x2560 .bf16) (harg11 : arg11.IsWhole) (arg12 : Memref sig .tc .vmem S1024x2560 .bf16) (harg12 : arg12.IsWhole) (arg13 : Memref sig .tc .vmem S20x8x128 .i32) (harg13 : arg13.IsWhole) (hc0 : ¬cond0_0 i)
    (x0 : Vec F S6 .i32) (x1 : Vec F S5 .f32) (x2 : Vec F S5 .i32) (x3 : Vec F S20x128 .i32) (x4 : Vec F S1024x2560 .bf16) (x5 : Vec F S256x1280 .i8) (x6 : Vec F S256x5 .f32) (x7 : Vec F S256x5 .i8) (y9 : Vec F S1024x2560 .i8) (D : Vec F S1024x2560 .bf16)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare y9 ∗ owns (c : Thread nD τ) arg11 fullShare D ∗ (∃ d, owns (c : Thread nD τ) arg12 fullShare d) ∗ owns (c : Thread nD τ) arg13 fullShare (CG x0)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (YG x0 D x5 x6 x7) ∗ owns (c : Thread nD τ) arg10 fullShare y9 ∗ owns (c : Thread nD τ) arg11 fullShare D ∗ (∃ d, owns (c : Thread nD τ) arg12 fullShare d) ∗ owns (c : Thread nD τ) arg13 fullShare (CG x0)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hfs0; obtain rfl := harg13.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap; · iexact H8
      ipureintro
      refine (read_writes_whole arg9.view _ _ _).trans (congrArg₂ k0_pay3 (readAt_whole _ (harg11.read_unread D)) ?_)
      exact weights_22 (h6 := harg6.read_unread x5) (h7 := harg7.read_unread x6) (h8 := harg8.read_unread x7)
        (h13 := harg13.read_unread _) ..
    isplitl [H9]
    · iexists _; isplitr; · ipureintro; exact harg10.read_unread _
      iexact H9
    isplitl [HS0]
    · iexists _; isplitr; · ipureintro; exact harg11.read_unread _
      iexact HS0
    isplitl [HS1]
    · iexists _, _; isplitr; swap; · iexact HS1
      ipureintro; rfl
    iexists _; isplitr; · ipureintro; exact harg13.read_unread _
    iexact HS2

end Cert.KernelIdeal.Own
-- ==== Proof.Ideal.Frame.lean ====
/- The ideal program point by point: what each window's buffer and the carried scratch hold, and the run. -/
module

public import proofs.«01_k».proof.Proof.Ideal.RunA
public import proofs.«01_k».proof.Proof.Ideal.RunB
public import Idealize.ShloMosaic.Lib.Pipeline.TableIdle
public import Idealize.ShloMosaic.Lib.Claim

@[expose] public section

-- membership in a rectangle is checked by a recursion, one step per coordinate of the long axes
set_option maxRecDepth 16384

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The whole-array inputs, and what the first point computes from them -/

/-- The first grid point. -/
def t0 : Fin cfg0.N := ⟨0, lt_of_lt_of_eq (by decide : 0 < 27) (show 27 = cfg0.N from N_0.symm)⟩
/-- The cluster bounds, scales, zero points, permutation and activations, as the first point finds them. -/
def bB (c : Dev nD) : Vec F S6 .i32 := iblk m c 0 t0
def bS (c : Dev nD) : Vec F S5 .f32 := iblk m c 1 t0
def bZ (c : Dev nD) : Vec F S5 .i32 := iblk m c 2 t0
def bP (c : Dev nD) : Vec F S20x128 .i32 := iblk m c 3 t0
def bX (c : Dev nD) : Vec F S1024x2560 .bf16 := iblk m c 4 t0
/-- The dequantised activations and the codes. -/
def dAll (c : Dev nD) : Vec F S1024x2560 .bf16 := DG (bB m c) (bS m c) (bZ m c) (bP m c) (bX m c)
def xAll (c : Dev nD) : Vec F S1024x2560 .i8 := XG (bB m c) (bS m c) (bZ m c) (bP m c) (bX m c)
/-- These five windows hold the same block at every point. -/
theorem iblk_0 (c : Dev nD) (t : Fin cfg0.N) : (iblk m c 0 t : Vec F S6 .i32) = bB m c := rfl
theorem iblk_1 (c : Dev nD) (t : Fin cfg0.N) : (iblk m c 1 t : Vec F S5 .f32) = bS m c := rfl
theorem iblk_2 (c : Dev nD) (t : Fin cfg0.N) : (iblk m c 2 t : Vec F S5 .i32) = bZ m c := rfl
theorem iblk_3 (c : Dev nD) (t : Fin cfg0.N) : (iblk m c 3 t : Vec F S20x128 .i32) = bP m c := rfl
theorem iblk_4 (c : Dev nD) (t : Fin cfg0.N) : (iblk m c 4 t : Vec F S1024x2560 .bf16) = bX m c := rfl

/-- The region invariant before position `n`: at the start every scratch holds anything; afterwards the first scratch
    holds the dequantised activations, the third the clusters, and the second anything. -/
def PhiS (c : Dev nD) : (n : ℕ) → n ≤ cfg0.N → sProp 𝕄
  | 0, _ => Pipeline.ΦA spec0 c
  | n + 1, hn => iprop(iprop(owns (c : Thread nD τ) scM0_0 fullShare (dAll m c) ∗ (∃ d, owns (c : Thread nD τ) scM0_1 fullShare d) ∗ owns (c : Thread nD τ) scM0_2 fullShare (CG (bB m c))) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) : PhiS m c n h = iprop(iprop(owns (c : Thread nD τ) scM0_0 fullShare (dAll m c) ∗ (∃ d, owns (c : Thread nD τ) scM0_1 fullShare d) ∗ owns (c : Thread nD τ) scM0_2 fullShare (CG (bB m c))) ∗ (∃ r, prngReg c r)) := by
  cases n with
  | zero => exact absurd rfl hz
  | succ n => rfl

/-! ## The pipeline's proof data -/

/-- After the body at point `t` each input's buffer holds its block, the product's window the product with the point's
    weights, and the codes' window the codes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => YG (bB m c) (dAll m c) (iblk m c 5 t) (iblk m c 6 t) (iblk m c 7 t)
    | ⟨9, _⟩ => xAll m c
  Φ t := PhiS m c t.val (Nat.le_of_lt_succ t.isLt)
  q _ := fullShare
  owed _ := 0

/-- The proof data's arrays are the arrays as the region finds them. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = YG (bB m c) (dAll m c) (iblk m c 5 t) (iblk m c 6 t) (iblk m c 7 t) := by dsimp only [dats]
theorem after0_9 (c : Dev nD) (t : Fin cfg0.N) : (dats m 0 c).after 9 t = xAll m c := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The codes' window is idle at every point but the first. -/
theorem idle0_9 (t : Fin cfg0.N) : cfg0.idle 9 (grid0.coords t) = decide (t.val ≠ 0) := by
  have hN : t.val < 27 := lt_of_lt_of_eq t.isLt (show cfg0.N = 27 from N_0)
  show (!(k0_cond1 (grid0.coords t) == 1#1)) = _
  by_cases hz : t.val = 0
  · have h : k0_cond1 (grid0.coords t) = 1#1 := (hcond0_0 t).mpr (by omega)
    rw [h]; simp [hz]
  · have h : ¬ k0_cond1 (grid0.coords t) = 1#1 := fun h => by have := (hcond0_0 t).mp h; omega
    rw [beq_eq_false_iff_ne.mpr h]; simp [hz]

/-- The codes' buffer holds nothing the body stored only at the first point, and after the last. -/
theorem fresh0_9 (n : ℕ) (h : n ≤ cfg0.N) : cfg0.fresh 9 n = decide (n = 0 ∨ n = 27) := by
  refine cfg0.fresh_tab 9 (fun n => decide (n = 0 ∨ n = 27)) rfl (fun t => ?_) n h
  have hN : t.val < 27 := lt_of_lt_of_eq t.isLt (show cfg0.N = 27 from N_0)
  rw [idle0_9]
  have hf : (cfg0.win 9).flush t = decide (t.val % 27 = 26) := Bool.eq_iff_iff.mpr ((flush0_9 t).trans (by simp))
  rw [hf]
  by_cases hz : t.val = 0
  · simp [hz]
  · by_cases h26 : t.val = 26
    · simp [h26]
    · have : ¬ t.val % 27 = 26 := by omega
      have : ¬ t.val = 27 := by omega
      simp [*]

/-- After the first point the codes' buffer holds the codes. -/
theorem before0_9 (c : Dev nD) (t : Fin cfg0.N) (ht : t.val ≠ 0) (d) : (dats m 0 c).before 9 t d = xAll m c := by
  have hN : t.val < 27 := lt_of_lt_of_eq t.isLt (show cfg0.N = 27 from N_0)
  rw [(dats m 0 c).before_out_traj 9 rfl (fun _ _ => rfl) (fun t _ _ _ => by rw [after0_9, after0_9]) t.val t rfl d,
    fresh0_9 _ (Nat.le_of_lt t.isLt), if_neg (by simp; omega), after0_9]

/-- A buffer holding the codes is what the body owes the codes' window at any point. -/
theorem leaves0_9 (c : Dev nD) (t : Fin cfg0.N) : owns (c : Thread nD τ) (ms0_9 t) fullShare (xAll m c) ⊢ ((dats m 0 c).leavesExact 9 t : sProp 𝕄) := by
  unfold Dat.leavesExact
  rw [show cfg0.idle 9 (cfg0.grid.coords t) = decide (t.val ≠ 0) from idle0_9 t]
  by_cases hz : t.val = 0
  · rw [decide_eq_false (by simpa using hz)]
    dsimp only
    rw [after0_9]
  · rw [decide_eq_true hz]
    cases hfl : (cfg0.win 9).flush t
    · dsimp only
      iintro H
      iexists (xAll m c)
      rw [before0_9 m c t hz]
      iexact H
    · dsimp only
      rw [after0_9]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 9600000 in
/-- The body at any point, from the two cases of its branch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), PhiS_castSucc m c t]
  have hN : t.val < 27 := lt_of_lt_of_eq t.isLt (show cfg0.N = 27 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  by_cases hz : t.val = 0
  · rw [PhiS_zero m c _ _ hz, PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bodyA c (grid0.coords t) _ _ _ _ _ _ _ _ _ _ _ _ _ _ _ _ _ _ _ _ _ _ _ _ _ _ ((hcond0_0 t).mpr (by omega)) (iblk m c 0 t) (iblk m c 1 t) (iblk m c 2 t) (iblk m c 3 t) (iblk m c 4 t) (iblk m c 5 t) (iblk m c 6 t) (iblk m c 7 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply (leaves0_9 m c t)
    iexact H9
  · rw [PhiS_pos m c _ _ hz]
    simp only [before0_9 m c t hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bodyB c (grid0.coords t) _ _ _ _ _ _ _ _ _ _ _ _ _ _ _ _ _ _ _ _ _ _ _ _ _ _ (fun h => by have := (hcond0_0 t).mp h; omega) (iblk m c 0 t) (iblk m c 1 t) (iblk m c 2 t) (iblk m c 3 t) (iblk m c 4 t) (iblk m c 5 t) (iblk m c 6 t) (iblk m c 7 t) (xAll m c) (dAll m c))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply (leaves0_9 m c t)
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 27 := N_0; omega)

/-! ## The run and the frame -/

-- the implicit arguments are found by unifying the conclusion with this one, which takes unfolding plain definitions in
-- a metavariable's type
set_option backward.isDefEq.respectTransparency.types false in
/-- Every run terminates with the arrays as the proof data says and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run terminates, leaves the arguments unchanged and every semaphore counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Own

end
-- ==== Proof.Eq.Words.lean ====
/- Facts about single words and numbers: a channel's cluster is one of the five, a permutation entry in range picks its own column,
   and a quantised activation is a whole number between -128 and 127, so its code gives it back. -/
module

public import proofs.«01_k».proof.Proof.Ideal.TilePoints
public import Idealize.ShloMosaic.Lib.Routing.OpsSet

@[expose] public section

set_option maxRecDepth 16384

noncomputable section

namespace Cert.KernelIdeal.Own

open Cert.KernelIdeal Cert.KernelIdeal.Gen
open Idealize.ShloMosaic hiding ix1 ix2 ix3 eq_ix1 eq_ix2 eq_ix3
open Idealize.SL.Sem
open Idealize.ShloMosaic.ValueIdx

/-! ## Clusters -/

theorem geS_cases (p b : BitVec 32) : geS p b = if b.sle p then 1#32 else 0#32 := by
  unfold geS Scalar.select IntOp.cmpi
  cases h : b.sle p <;> simp

/-- Six indicator words of which one is set and one is not add up, less one, to a number below five. -/
theorem cid_bools : ∀ g0 g1 g2 g3 g4 g5 : Bool, (g0 || g1 || g2 || g3 || g4 || g5) = true →
    (g0 && g1 && g2 && g3 && g4 && g5) = false →
    (4294967295#32 + (if g0 then 1#32 else 0#32) + (if g1 then 1#32 else 0#32) + (if g2 then 1#32 else 0#32)
      + (if g3 then 1#32 else 0#32) + (if g4 then 1#32 else 0#32) + (if g5 then 1#32 else 0#32)).toNat < 5 := by
  decide

/-- The cluster of a channel is one of the five when some bound is at most zero and some bound at least the number of channels. -/
theorem cidW_lt (B : IVec S6 32) (h0 : ∃ j : Fin 6, (B (ix1 j)).sle 0#32 = true) (h1 : ∃ j : Fin 6, (2560#32).sle (B (ix1 j)) = true)
    (ch : Fin 2560) : (cidW B ch).toNat < 5 := by
  have hp : (BitVec.ofNat 32 ch.val).toInt = (ch.val : Int) := StableHlo.Predicate.toInt_ofNat_small _ (by omega)
  have hc := ch.isLt
  obtain ⟨j, hj⟩ := h0
  obtain ⟨k, hk⟩ := h1
  have hj' : (B (ix1 j)).sle (BitVec.ofNat 32 ch.val) = true := by
    rw [BitVec.sle_eq_decide, decide_eq_true_iff] at hj ⊢
    rw [hp]; exact le_trans hj (by simp)
  have hk' : (B (ix1 k)).sle (BitVec.ofNat 32 ch.val) = false := by
    rw [BitVec.sle_eq_decide, decide_eq_true_iff] at hk
    rw [BitVec.sle_eq_decide, decide_eq_false_iff_not, hp]
    have e : (2560#32 : BitVec 32).toInt = 2560 := by decide
    rw [e] at hk; omega
  unfold cidW cidS
  rw [geS_cases, geS_cases, geS_cases, geS_cases, geS_cases, geS_cases]
  refine cid_bools _ _ _ _ _ _ ?_ ?_
  · match j, hj' with
    | ⟨0, _⟩, h | ⟨1, _⟩, h | ⟨2, _⟩, h | ⟨3, _⟩, h | ⟨4, _⟩, h | ⟨5, _⟩, h => first
      | (have h' : (B (ix1 0)).sle (BitVec.ofNat 32 ch.val) = true := h; rw [h']; simp; done)
      | (have h' : (B (ix1 1)).sle (BitVec.ofNat 32 ch.val) = true := h; rw [h']; simp; done)
      | (have h' : (B (ix1 2)).sle (BitVec.ofNat 32 ch.val) = true := h; rw [h']; simp; done)
      | (have h' : (B (ix1 3)).sle (BitVec.ofNat 32 ch.val) = true := h; rw [h']; simp; done)
      | (have h' : (B (ix1 4)).sle (BitVec.ofNat 32 ch.val) = true := h; rw [h']; simp; done)
      | (have h' : (B (ix1 5)).sle (BitVec.ofNat 32 ch.val) = true := h; rw [h']; simp; done)
  · match k, hk' with
    | ⟨0, _⟩, h | ⟨1, _⟩, h | ⟨2, _⟩, h | ⟨3, _⟩, h | ⟨4, _⟩, h | ⟨5, _⟩, h => first
      | (have h' : (B (ix1 0)).sle (BitVec.ofNat 32 ch.val) = false := h; rw [h']; simp; done)
      | (have h' : (B (ix1 1)).sle (BitVec.ofNat 32 ch.val) = false := h; rw [h']; simp; done)
      | (have h' : (B (ix1 2)).sle (BitVec.ofNat 32 ch.val) = false := h; rw [h']; simp; done)
      | (have h' : (B (ix1 3)).sle (BitVec.ofNat 32 ch.val) = false := h; rw [h']; simp; done)
      | (have h' : (B (ix1 4)).sle (BitVec.ofNat 32 ch.val) = false := h; rw [h']; simp; done)
      | (have h' : (B (ix1 5)).sle (BitVec.ofNat 32 ch.val) = false := h; rw [h']; simp; done)

/-- The choice among five by a cluster word. -/
theorem pickS_ofNat {α : Type} (f : Fin 5 → α) (k : Fin 5) : pickS (BitVec.ofNat 32 k.val) (f 0) (f 1) (f 2) (f 3) (f 4) = f k := by
  match k with
  | ⟨0, _⟩ | ⟨1, _⟩ | ⟨2, _⟩ | ⟨3, _⟩ | ⟨4, _⟩ => rfl

/-- A table of five padded to the lanes, at a cluster word. -/
theorem padS_ofNat {F : FTy → Type} [FloatOps F] (f : Fin 5 → F .bf16) (k : Fin 5) : padS f (BitVec.ofNat 32 k.val) = f k := by
  match k with
  | ⟨0, _⟩ | ⟨1, _⟩ | ⟨2, _⟩ | ⟨3, _⟩ | ⟨4, _⟩ => rfl

/-! ## The permutation -/

theorem hiS_ofNat (p : Fin 2560) : hiS (BitVec.ofNat 32 p.val) = BitVec.ofNat 32 (p.val / 128) := by
  revert p; decide +kernel

theorem loS_ofNat (p : Fin 2560) : (loS (BitVec.ofNat 32 p.val)).toNat % 128 = p.val % 128 := by
  revert p; decide +kernel

/-- A word that names tile `n` picks the tile's entry. -/
theorem selS_tile {F : FTy → Type} [FloatOps F] (w : BitVec 32) (row : Fin 20 → Fin 128 → F .f32) (n : Fin 20)
    (h : hiS w = BitVec.ofNat 32 n.val) : selS w row = row n ⟨(loS w).toNat % 128, Nat.mod_lt _ (by decide)⟩ := by
  unfold selS selStep
  rw [h]
  fin_cases n <;> rfl

/-- A permutation entry in range picks the activation of its own column. -/
theorem selS_ofNat {F : FTy → Type} [FloatOps F] (X : Vec F S1024x2560 .bf16) (i : Fin 1024) (p : Fin 2560) :
    selS (BitVec.ofNat 32 p.val) (rowX X i) = FloatOps.extf .f32 bitsLt_bf16_f32 (X (ix2 i p)) := by
  rw [selS_tile _ _ (⟨p.val / 128, by omega⟩ : Fin 20) (hiS_ofNat p)]
  unfold rowX
  refine congrArg (fun q => FloatOps.extf .f32 bitsLt_bf16_f32 (X (ix2 i q))) (Fin.ext ?_)
  show 128 * (p.val / 128) + (loS (BitVec.ofNat 32 p.val)).toNat % 128 = p.val
  rw [loS_ofNat]; omega

/-! ## Quantised activations -/

/-- A whole number between -128 and 127. -/
def Whole (q : EReal) : Prop := ∃ n : ℤ, -128 ≤ n ∧ n ≤ 127 ∧ q = ((n : ℝ) : EReal)

theorem whole_clamp (a : EReal) (z : ℤ) :
    Whole (min (((127 : ℤ) : ℝ) : EReal) (max (((-128 : ℤ) : ℝ) : EReal) (Idealize.ShloMosaic.Ideal.liftRound Idealize.ShloMosaic.Ideal.roundHalfEven a + ((z : ℝ) : EReal)))) := by
  induction a with
  | bot =>
    refine ⟨-128, by decide, by decide, ?_⟩
    rw [Idealize.ShloMosaic.Ideal.liftRound_bot, EReal.bot_add, max_eq_left bot_le, min_eq_right]
    exact EReal.coe_le_coe_iff.2 (by norm_num)
  | top =>
    refine ⟨127, by decide, by decide, ?_⟩
    rw [Idealize.ShloMosaic.Ideal.liftRound_top, EReal.top_add_coe, max_eq_right le_top, min_eq_left le_top]
  | coe r =>
    refine ⟨min 127 (max (-128) (Idealize.ShloMosaic.Ideal.roundHalfEven r + z)), by omega, by omega, ?_⟩
    rw [Idealize.ShloMosaic.Ideal.liftRound_coe, ← EReal.coe_add, ← EReal.coe_strictMono.monotone.map_max, ← EReal.coe_strictMono.monotone.map_min]
    push_cast
    rfl

theorem whole_quantS (x s : EReal) (z : ℤ) : Whole (quantS (F := Idealize.ShloMosaic.Ideal) x s ((z : ℝ) : EReal)) := by
  have e : (4294967168#32 : BitVec 32).toInt = -128 := by decide
  have e' : (127#32 : BitVec 32).toInt = 127 := by decide
  have h := whole_clamp (Idealize.ShloMosaic.Ideal.div x s) z
  rw [← e, ← e'] at h
  exact h

/-- Reading a whole number as a word of eight bits and back gives the number. -/
theorem code_back (q : EReal) (h : Whole q) :
    ((((((Idealize.ShloMosaic.Ideal.fptosi 32 q).setWidth 8).signExtend 32).toInt : ℤ) : ℝ) : EReal) = q := by
  obtain ⟨n, h1, h2, rfl⟩ := h
  have hn : Idealize.ShloMosaic.Ideal.toIntClamped (-(2 ^ (32 - 1) : Nat)) ((2 ^ (32 - 1) : Nat) - 1) ((n : ℝ) : EReal) = n := by
    rw [Idealize.ShloMosaic.Ideal.toIntClamped_coe, Int.floor_intCast, Int.ceil_intCast, ite_self]
    norm_num
    omega
  unfold Idealize.ShloMosaic.Ideal.fptosi
  rw [hn]
  have : (((BitVec.ofInt 32 n).setWidth 8).signExtend 32).toInt = n := by
    rw [BitVec.toInt_signExtend_of_le (by decide), BitVec.toInt_setWidth, BitVec.toNat_ofInt]
    have : Int.bmod (((n % ((2 ^ 32 : Nat) : Int)).toNat : Nat) : Int) (2 ^ 8) = n := by
      rw [Int.toNat_of_nonneg (Int.emod_nonneg _ (by decide))]
      rw [Int.bmod_def]; omega
    exact this
  rw [this]

end Cert.KernelIdeal.Own

end
-- ==== Proof.Eq.Gathers.lean ====
/- A gather of whole columns, read at an index: column `p` of the result is the column that word `p` names. -/
module

public import Idealize.ShloMosaic.Lib.Routing.OpsSet

@[expose] public section

set_option maxRecDepth 16384

noncomputable section

namespace Cert.Columns

open Idealize.ShloMosaic Idealize.ShloMosaic.Routing
open Idealize.ShloMosaic.ValueIdx (ix1 ix2)

theorem zero_not_mem (l : List (Fin 2)) (hl : l = [1]) : (0 : Fin 2) ∉ l := fun h => by
  rw [hl] at h
  exact absurd (List.mem_singleton.1 h) (by decide)

/-- `table[:, idx]` over the columns of a `[M, N]` table, `N < 2 ^ 31`: where `idx` holds at `(p, 0)` a column number `b < N`, entry
    `(i, p)` of the result is the table's entry `(i, b)`. -/
theorem gather_col {α : Type} {M N n : Nat} (d : GatherDims (shape2 M N) (shape2 n 1) (shape2 M n)) (hoff : d.offsetDims = [0])
    (hcoll : d.collapsedSliceDims = [1]) (hob : d.operandBatchingDims = [])
    (hsim : d.startIndexMap = [1]) (hivd : d.indexVectorDim = 1) (x : (shape2 M N).Idx → α) (idx : IVec (shape2 n 1) 32)
    (i : Fin M) (p : Fin n) (b : Fin N) (hb : idx (ix2 p (0 : Fin 1)) = BitVec.ofNat 32 b.val) (hN : N < 2 ^ 31) :
    Host.gather d x idx (ix2 i p) = x (ix2 i b) := by
  unfold Host.gather
  refine congrArg x (funext fun a => Fin.ext ?_)
  have hbN : ∀ a', a' ∉ d.operandBatchingDims := fun a' => by rw [hob]; exact List.not_mem_nil
  -- the result's batch axes are axis 1 alone, its offset axes axis 0 alone
  have hk1 : ∀ k ∈ d.batchDims, k = (1 : Fin 2) := fun k hk => by
    have hk' : k ∉ d.offsetDims := of_decide_eq_true (List.mem_filter.1 hk).2
    rw [hoff] at hk'
    have h0 : k.val ≠ 0 := fun e => hk' (List.mem_singleton.2 (Fin.ext e))
    have h2 : k.val < 2 := k.isLt
    exact Fin.ext (by show k.val = 1; omega)
  have hk0 : ∀ k ∈ d.offsetDims, k = (0 : Fin 2) := fun k hk => by rw [hoff] at hk; exact List.mem_singleton.1 hk
  have e0 : ∀ X : Fin 2, X = 0 → (ix2 i p X).val = i.val := fun X h => by subst h; rfl
  have e1 : ∀ X : Fin 2, X = 1 → (ix2 i p X).val = p.val := fun X h => by subst h; rfl
  match a with
  | ⟨0, _⟩ =>
    have hk : (0 : Fin 2) ∈ d.sKept := (d.mem_sKept 0).2 ⟨zero_not_mem _ hcoll, hbN 0⟩
    have hm : (0 : Fin 2) ∉ d.startIndexMap := zero_not_mem _ hsim
    show d.start (ix2 i p) idx 0 + d.batchCoord (ix2 i p) 0 + d.offCoord (ix2 i p) 0 = i.val
    rw [d.batchCoord_eq_zero _ _ (hbN 0), Nat.add_zero]
    unfold GatherDims.start GatherDims.offCoord
    rw [dif_neg hm, dif_pos hk, Nat.zero_add]
    exact e0 _ (hk0 _ (List.getElem_mem _))
  | ⟨1, _⟩ =>
    have hk : (1 : Fin 2) ∉ d.sKept := fun h => ((d.mem_sKept 1).1 h).1 (by rw [hcoll]; exact List.mem_singleton.2 rfl)
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix2 i p) idx 1 + d.batchCoord (ix2 i p) 1 + d.offCoord (ix2 i p) 1 = b.val
    rw [d.batchCoord_eq_zero _ _ (hbN 1), d.offCoord_eq_zero _ _ hk]
    simp only [Nat.add_zero]
    unfold GatherDims.start
    rw [dif_pos hm]
    have hsi : d.siIdx (ix2 i p) ⟨d.startIndexMap.idxOf 1, List.idxOf_lt_length_iff.2 hm⟩ = ix2 p (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact e1 _ (hk1 _ (List.getElem_mem _))
      | ⟨1, _⟩ =>
        unfold GatherDims.siIdx
        rw [dif_pos (by rw [hivd])]
        show List.idxOf (1 : Fin 2) d.startIndexMap = 0
        rw [hsim]; simp
    have hbl := b.isLt
    rw [hsi, hb, hsl, StableHlo.Predicate.toInt_ofNat_small _ (by omega)]
    show min ((b.val : Int)).toNat (N - 1) = b.val
    omega

end Cert.Columns

end
-- ==== Proof.Eq.Ref.lean ====
/- The reference's activations and clusters read at an index, in the kernel's words. -/
module

public import proofs.«01_k».proof.Proof.Eq.Words
public import proofs.«01_k».proof.Proof.Eq.Gathers
public import proofs.«01_k».proof.Proof.Gen.ReferenceIdeal.Read
public import Idealize.ShloMosaic.Lib.Pipeline.ValueKit

@[expose] public section

set_option maxRecDepth 16384

noncomputable section

namespace Cert.ReferenceIdeal.Own

open Cert.ReferenceIdeal Cert.ReferenceIdeal.Gen Cert.ReferenceIdeal.Read
open Cert.KernelIdeal.Own (cidW sW zW s16W qW quantS permW rowX geS cidS pickS selS Whole)
open Idealize.ShloMosaic hiding ix1 ix2 ix3 eq_ix1 eq_ix2 eq_ix3
open Idealize.SL.Sem
open Idealize.ShloMosaic.ValueIdx

/-- The number of a word below `n`. -/
theorem ofNat_toNat (w : BitVec 32) : w = BitVec.ofNat 32 w.toNat := by simp

/-- A word that is not negative stays what it is under the wrap of negative indices. -/
theorem wrap_nonneg (w n : BitVec 32) (h : w.toNat < 2 ^ 31) : Scalar.select (IntOp.cmpi .slt w 0#32) (IntOp.addi w n) w = w := by
  have e : w.slt 0#32 = false := by
    rw [BitVec.slt_eq_decide, decide_eq_false_iff_not, BitVec.toInt_eq_toNat_of_lt (by omega)]
    simp
  show (if BitVec.ofBool (w.slt 0#32) = 1 then _ else w) = w
  rw [e]; rfl

section
variable (x2 : IVec S6 32)

/-- The reference's cluster of a channel. -/
theorem v3_at (ch : Fin 2560) : val_main_v3 (F := Idealize.ShloMosaic.Ideal) x2 (ix1 ch) = cidW x2 ch := by
  have h1 : val_main_v1 (F := Idealize.ShloMosaic.Ideal) x2 (ix1 ch)
      = (Finset.univ : Finset (Fin 6)).fold IntOp.addi 0#32 (fun k => geS (BitVec.ofNat 32 ch.val) (x2 (ix1 k))) := by
    unfold val_main_v1
    rw [Host.reduce_eq_fold, Shape.ReducesTo.fold_fiber_r2_a0]
    refine congrArg (fun f => Finset.fold IntOp.addi 0#32 f (Finset.univ : Finset (Fin 6))) (funext fun k => ?_)
    show (val_main_call0_call0_v4 (F := Idealize.ShloMosaic.Ideal) x2 _).setWidth 32 = _
    rw [val_main_call0_call0_v4_apply, val_main_call0_call0_v2_apply, val_main_call0_call0_v3_apply, val_main_call0_call0_v1_apply,
      val_main_call0_call0_v0_apply, Cert.KernelIdeal.Own.geS_cases]
    show (BitVec.ofBool ((x2 _).sle (BitVec.ofNat 32 ch.val))).setWidth 32 = _
    have e : idx_main_call0_call0_v1 (idx_main_call0_call0_v2 (Idealize.ShloMosaic.ix2 k ch)) = ix1 k := funext fun a => match a with
      | ⟨0, _⟩ => rfl
    refine Eq.trans (congrArg (fun j => (BitVec.ofBool ((x2 j).sle (BitVec.ofNat 32 ch.val))).setWidth 32) e) ?_
    cases (x2 (ix1 k)).sle (BitVec.ofNat 32 ch.val) <;> rfl
  rw [val_main_v3_apply, h1]
  generalize hg : (fun k => geS (BitVec.ofNat 32 ch.val) (x2 (ix1 k))) = g
  have e : cidW x2 ch = (4294967295#32 + g 0 + g 1 + g 2 + g 3 + g 4 + g 5 : BitVec 32) := by subst hg; rfl
  rw [e]
  show (Finset.fold IntOp.addi 0#32 g (Finset.univ : Finset (Fin 6))) - 1#32 = _
  have e' : Finset.fold IntOp.addi 0#32 g (Finset.univ : Finset (Fin 6)) = (g 0 + (g 1 + (g 2 + (g 3 + (g 4 + (g 5 + 0#32))))) : BitVec 32) := rfl
  rw [e', BitVec.add_zero]
  have e'' : (4294967295#32 : BitVec 32) = -1#32 := by decide
  rw [e'']
  ring

variable (hr : ∀ ch : Fin 2560, (cidW x2 ch).toNat < 5)

/-- The number of a channel's cluster. -/
def kC (ch : Fin 2560) : Fin 5 := ⟨(cidW x2 ch).toNat, hr ch⟩

theorem cidW_kC (ch : Fin 2560) : cidW x2 ch = BitVec.ofNat 32 (kC x2 hr ch).val := ofNat_toNat _

include hr in
theorem v18_at (ch : Fin 2560) : val_main_v18 (F := Idealize.ShloMosaic.Ideal) x2 (ix2 ch (0 : Fin 1)) = BitVec.ofNat 32 (kC x2 hr ch).val := by
  rw [val_main_v18_apply]
  have e : idx_main_v18 (ix2 ch (0 : Fin 1)) = ix1 ch := funext fun a => match a with
    | ⟨0, _⟩ => rfl
  rw [← cidW_kC]
  refine (congrArg (val_main_v17 (F := Idealize.ShloMosaic.Ideal) x2) e).trans ?_
  refine (wrap_nonneg (val_main_v3 (F := Idealize.ShloMosaic.Ideal) x2 (ix1 ch)) 5#32 ?_).trans (v3_at x2 ch)
  rw [v3_at]; have := hr ch; omega

/-- A table of five read at a channel's cluster. -/
theorem take5 {α : Type} (x : S5.Idx → α) (ch : Fin 2560) :
    Host.gather gather_S5_S2560x1_S2560_n_0_n_n_0_1_1 x (val_main_v18 (F := Idealize.ShloMosaic.Ideal) x2) (ix1 ch) = x (ix1 (kC x2 hr ch)) :=
  Routing.gather_take1 _ rfl rfl rfl rfl x _ ch (kC x2 hr ch) (v18_at x2 hr ch) (by decide)

theorem sW_kC (x3 : FVec Idealize.ShloMosaic.Ideal S5 .f32) (ch : Fin 2560) : sW x2 x3 ch = x3 (ix1 (kC x2 hr ch)) := by
  unfold sW
  rw [cidW_kC x2 hr]
  exact Cert.KernelIdeal.Own.pickS_ofNat (fun k => x3 (ix1 k)) (kC x2 hr ch)

theorem zW_kC (x4 : IVec S5 32) (ch : Fin 2560) :
    zW (F := Idealize.ShloMosaic.Ideal) x2 x4 ch = (((x4 (ix1 (kC x2 hr ch))).toInt : ℝ) : EReal) := by
  unfold zW
  rw [cidW_kC x2 hr]
  exact congrArg (fun w : BitVec 32 => ((w.toInt : ℝ) : EReal)) (Cert.KernelIdeal.Own.pickS_ofNat (fun k => x4 (ix1 k)) (kC x2 hr ch))

end

section
variable (x0 : FVec Idealize.ShloMosaic.Ideal S4x256x2560 .bf16) (x1 : IVec S2560 32) (x2 : IVec S6 32)
  (x3 : FVec Idealize.ShloMosaic.Ideal S5 .f32) (x4 : IVec S5 32)

/-- The permutation and the activations as the kernel lays them out. -/
def pK : IVec Cert.KernelIdeal.S20x128 32 := shapeCast Cert.KernelIdeal.S20x128 x1 Cert.KernelIdeal.Gen.shapeCasts_S2560_S20x128
def xK : FVec Idealize.ShloMosaic.Ideal S1024x2560 .bf16 := shapeCast S1024x2560 x0 shapeCasts_S4x256x2560_S1024x2560

theorem permW_pK (ch : Fin 2560) : permW (pK x1) ch = x1 (ix1 ch) := by
  unfold permW pK
  refine shapeCast_apply x1 _ _ (ix1 ch) ?_
  rw [Shape.rowMajor_val_one, Shape.rowMajor_val_two]
  show ch.val = ch.val / 128 * 128 + ch.val % 128
  omega

variable (hr : ∀ ch : Fin 2560, (cidW x2 ch).toNat < 5) (hp : ∀ ch : Fin 2560, (x1 (ix1 ch)).toNat < 2560)

/-- The column a channel comes from. -/
def pC (ch : Fin 2560) : Fin 2560 := ⟨(x1 (ix1 ch)).toNat, hp ch⟩

theorem v10_at (ch : Fin 2560) : val_main_v10 (F := Idealize.ShloMosaic.Ideal) x1 (ix2 ch (0 : Fin 1)) = BitVec.ofNat 32 (pC x1 hp ch).val := by
  rw [val_main_v10_apply]
  have e : idx_main_v10 (ix2 ch (0 : Fin 1)) = ix1 ch := funext fun a => match a with
    | ⟨0, _⟩ => rfl
  refine (congrArg (val_main_v9 (F := Idealize.ShloMosaic.Ideal) x1) e).trans ?_
  refine (wrap_nonneg (x1 (ix1 ch)) 2560#32 ?_).trans (ofNat_toNat _)
  have := hp ch; omega

theorem v11_at (i : Fin 1024) (ch : Fin 2560) :
    val_main_v11 (F := Idealize.ShloMosaic.Ideal) x0 x1 (ix2 i ch) = xK x0 (ix2 i (pC x1 hp ch)) :=
  Cert.Columns.gather_col _ rfl rfl rfl rfl rfl (xK x0) _ i ch (pC x1 hp ch) (v10_at x1 hp ch) (by decide)

include hr in
theorem v19_at (ch : Fin 2560) : val_main_v19 (F := Idealize.ShloMosaic.Ideal) x2 x3 (ix1 ch) = sW x2 x3 ch :=
  (take5 x2 hr x3 ch).trans (sW_kC x2 hr x3 ch).symm
include hr in
theorem v57_at (ch : Fin 2560) : val_main_v57 (F := Idealize.ShloMosaic.Ideal) x2 x3 (ix1 ch) = sW x2 x3 ch :=
  v19_at x2 x3 hr ch
theorem v46_at (ch : Fin 2560) : val_main_v46 (F := Idealize.ShloMosaic.Ideal) x2 x4 (ix1 ch) = x4 (ix1 (kC x2 hr ch)) :=
  take5 x2 hr x4 ch
theorem v26_at (ch : Fin 2560) : val_main_v26 (F := Idealize.ShloMosaic.Ideal) x2 x4 (ix1 ch) = x4 (ix1 (kC x2 hr ch)) :=
  take5 x2 hr x4 ch

include hr hp in
/-- The reference's quantised activation is the kernel's. -/
theorem v35_at (i : Fin 1024) (ch : Fin 2560) :
    val_main_v35 (F := Idealize.ShloMosaic.Ideal) x0 x1 x2 x3 x4 (ix2 i ch) = qW x2 x3 x4 (pK x1) (xK x0) i ch := by
  have es : val_main_v29 (F := Idealize.ShloMosaic.Ideal) x2 x3 (ix2 i ch) = sW x2 x3 ch := by
    rw [val_main_v29_apply, val_main_v28_apply]
    have e : idx_main_v28 (idx_main_v29 (ix2 i ch)) = ix1 ch := funext fun a => match a with
      | ⟨0, _⟩ => rfl
    rw [e]
    exact v19_at x2 x3 hr ch
  have ez : val_main_v33 (F := Idealize.ShloMosaic.Ideal) x2 x4 (ix2 i ch) = zW (F := Idealize.ShloMosaic.Ideal) x2 x4 ch := by
    rw [val_main_v33_apply, val_main_v32_apply, zW_kC x2 hr, val_main_v27_apply]
    have e : idx_main_v32 (idx_main_v33 (ix2 i ch)) = ix1 ch := funext fun a => match a with
      | ⟨0, _⟩ => rfl
    rw [e, v26_at x2 x4 hr ch]
    rfl
  have ex : val_main_v12 (F := Idealize.ShloMosaic.Ideal) x0 x1 (ix2 i ch) = selS (F := Idealize.ShloMosaic.Ideal) (permW (pK x1) ch) (rowX (xK x0) i) := by
    rw [permW_pK]
    have e : x1 (ix1 ch) = BitVec.ofNat 32 (pC x1 hp ch).val := ofNat_toNat _
    rw [e, Cert.KernelIdeal.Own.selS_ofNat]
    exact v11_at x0 x1 hp i ch
  have e1 : val_main_call2_v4 (F := Idealize.ShloMosaic.Ideal) (ix2 i ch) = FloatOps.sitofp (F := Idealize.ShloMosaic.Ideal) .f32 127#32 := rfl
  have e2 : val_main_call2_v1 (F := Idealize.ShloMosaic.Ideal) (ix2 i ch) = FloatOps.sitofp (F := Idealize.ShloMosaic.Ideal) .f32 4294967168#32 := rfl
  rw [val_main_v35_apply, val_main_call2_v2_apply, val_main_v34_apply, val_main_v31_apply, val_main_v30_apply, es, ez, ex, e1, e2]
  rfl

include hr in
theorem qW_whole (i : Fin 1024) (ch : Fin 2560) : Whole (qW (F := Idealize.ShloMosaic.Ideal) x2 x3 x4 (pK x1) (xK x0) i ch) := by
  unfold qW
  rw [zW_kC x2 hr]
  exact Cert.KernelIdeal.Own.whole_quantS _ _ _

include hr hp in
/-- The dequantised activation. -/
theorem v61_at (i : Fin 1024) (ch : Fin 2560) :
    val_main_v61 (F := Idealize.ShloMosaic.Ideal) x0 x1 x2 x3 x4 (ix2 i ch)
      = FloatOps.truncf (F := Idealize.ShloMosaic.Ideal) .bf16 bitsLt_bf16_f32 (FloatOps.mulf (FloatOps.subf (qW x2 x3 x4 (pK x1) (xK x0) i ch) (zW x2 x4 ch)) (s16W x2 x3 ch)) := by
  have eq : val_main_v39 (F := Idealize.ShloMosaic.Ideal) x0 x1 x2 x3 x4 (ix2 i ch) = qW (F := Idealize.ShloMosaic.Ideal) x2 x3 x4 (pK x1) (xK x0) i ch := by
    rw [val_main_v39_apply, val_main_v38_apply, val_main_v37_apply, val_main_v36_apply, v35_at x0 x1 x2 x3 x4 hr hp]
    exact Cert.KernelIdeal.Own.code_back _ (qW_whole x0 x1 x2 x3 x4 hr i ch)
  have ez : val_main_v49 (F := Idealize.ShloMosaic.Ideal) x2 x4 (ix2 i ch) = zW (F := Idealize.ShloMosaic.Ideal) x2 x4 ch := by
    rw [val_main_v49_apply, val_main_v48_apply, zW_kC x2 hr, val_main_v47_apply]
    have e : idx_main_v48 (idx_main_v49 (ix2 i ch)) = ix1 ch := funext fun a => match a with
      | ⟨0, _⟩ => rfl
    rw [e, v46_at x2 x4 hr ch]
    rfl
  have es : val_main_v60 (F := Idealize.ShloMosaic.Ideal) x2 x3 (ix2 i ch) = sW x2 x3 ch := by
    rw [val_main_v60_apply, val_main_v59_apply, val_main_v58_apply]
    have e : idx_main_v59 (idx_main_v60 (ix2 i ch)) = ix1 ch := funext fun a => match a with
      | ⟨0, _⟩ => rfl
    rw [e, v57_at x2 x3 hr ch]
    rfl
  rw [val_main_v61_apply, val_main_v50_apply, eq, ez, es]
  rfl

end

end Cert.ReferenceIdeal.Own

end
-- ==== Proof.Eq.RefW.lean ====
/- The reference's dequantised weights read at an index, in the kernel's words, and its product. -/
module

public import proofs.«01_k».proof.Proof.Eq.Ref

@[expose] public section

set_option maxRecDepth 16384

noncomputable section

namespace Cert.ReferenceIdeal.Own

open Cert.ReferenceIdeal Cert.ReferenceIdeal.Gen Cert.ReferenceIdeal.Read
open Cert.KernelIdeal.Own (cidW wS padS nibS padS_ofNat)
open Idealize.ShloMosaic hiding ix1 ix2 ix3 eq_ix1 eq_ix2 eq_ix3
open Idealize.SL.Sem
open Idealize.ShloMosaic.ValueIdx

/-- The even and the odd channel of a byte's column. -/
def evenCh (k : Fin 1280) : Fin 2560 := ⟨2 * k.val, by omega⟩
def oddCh (k : Fin 1280) : Fin 2560 := ⟨2 * k.val + 1, by omega⟩

section
variable (x2 : IVec S6 32) (hr : ∀ ch : Fin 2560, (cidW x2 ch).toNat < 5)

theorem v62_at (k : Fin 1280) : val_main_v62 (F := Idealize.ShloMosaic.Ideal) x2 (ix1 k) = cidW x2 (evenCh k) := by
  unfold val_main_v62
  rw [Host.slice_apply]
  refine (congrArg (val_main_v3 (F := Idealize.ShloMosaic.Ideal) x2) (funext fun a => ?_)).trans (v3_at x2 (evenCh k))
  match a with
  | ⟨0, _⟩ => exact Fin.ext (by show 0 + 2 * k.val = 2 * k.val; omega)

theorem v63_at (k : Fin 1280) : val_main_v63 (F := Idealize.ShloMosaic.Ideal) x2 (ix1 k) = cidW x2 (oddCh k) := by
  unfold val_main_v63
  rw [Host.slice_apply]
  refine (congrArg (val_main_v3 (F := Idealize.ShloMosaic.Ideal) x2) (funext fun a => ?_)).trans (v3_at x2 (oddCh k))
  match a with
  | ⟨0, _⟩ => exact Fin.ext (by show 1 + 2 * k.val = 2 * k.val + 1; omega)

theorem v76_at (k : Fin 1280) : val_main_v76 (F := Idealize.ShloMosaic.Ideal) x2 (ix2 k (0 : Fin 1)) = BitVec.ofNat 32 (kC x2 hr (evenCh k)).val := by
  rw [val_main_v76_apply]
  have e : idx_main_v76 (ix2 k (0 : Fin 1)) = ix1 k := funext fun a => match a with
    | ⟨0, _⟩ => rfl
  rw [← cidW_kC]
  refine (congrArg (val_main_v75 (F := Idealize.ShloMosaic.Ideal) x2) e).trans ?_
  refine (wrap_nonneg (val_main_v62 (F := Idealize.ShloMosaic.Ideal) x2 (ix1 k)) 5#32 ?_).trans (v62_at x2 k)
  rw [v62_at]; have := hr (evenCh k); omega

theorem v95_at (k : Fin 1280) : val_main_v95 (F := Idealize.ShloMosaic.Ideal) x2 (ix2 k (0 : Fin 1)) = BitVec.ofNat 32 (kC x2 hr (oddCh k)).val := by
  rw [val_main_v95_apply]
  have e : idx_main_v95 (ix2 k (0 : Fin 1)) = ix1 k := funext fun a => match a with
    | ⟨0, _⟩ => rfl
  rw [← cidW_kC]
  refine (congrArg (val_main_v94 (F := Idealize.ShloMosaic.Ideal) x2) e).trans ?_
  refine (wrap_nonneg (val_main_v63 (F := Idealize.ShloMosaic.Ideal) x2 (ix1 k)) 5#32 ?_).trans (v63_at x2 k)
  rw [v63_at]; have := hr (oddCh k); omega

/-- A row's table of five read at the cluster of a byte's even channel, and of its odd one. -/
theorem takeEven {α : Type} (x : S6912x5.Idx → α) (n : Fin 6912) (k : Fin 1280) :
    Host.gather gather_S6912x5_S1280x1_S6912x1280_0_1_n_n_1_1_69121 x (val_main_v76 (F := Idealize.ShloMosaic.Ideal) x2) (ix2 n k)
      = x (ix2 n (kC x2 hr (evenCh k))) :=
  Cert.Columns.gather_col _ rfl rfl rfl rfl rfl x _ n k (kC x2 hr (evenCh k)) (v76_at x2 hr k) (by decide)
theorem takeOdd {α : Type} (x : S6912x5.Idx → α) (n : Fin 6912) (k : Fin 1280) :
    Host.gather gather_S6912x5_S1280x1_S6912x1280_0_1_n_n_1_1_69121 x (val_main_v95 (F := Idealize.ShloMosaic.Ideal) x2) (ix2 n k)
      = x (ix2 n (kC x2 hr (oddCh k))) :=
  Cert.Columns.gather_col _ rfl rfl rfl rfl rfl x _ n k (kC x2 hr (oddCh k)) (v95_at x2 hr k) (by decide)

/-- A weight at a cluster that is one of the five. -/
theorem wS_kC (low : Prop) [Decidable low] (w : BitVec 8) (sc : Fin 5 → EReal) (zp : Fin 5 → BitVec 8) (ch : Fin 2560) :
    wS (F := Idealize.ShloMosaic.Ideal) low w sc zp (cidW x2 ch)
      = ((nibS (F := Idealize.ShloMosaic.Ideal) low w : EReal) - ((((zp (kC x2 hr ch)).setWidth 32).toInt : ℝ) : EReal)) * sc (kC x2 hr ch) := by
  unfold wS
  rw [cidW_kC x2 hr, padS_ofNat, padS_ofNat]
  rfl

include hr

variable (x5 : IVec S6912x1280 8) (x6 : FVec Idealize.ShloMosaic.Ideal S6912x5 .f32) (x7 : IVec S6912x5 8)

theorem v89_at (n : Fin 6912) (k : Fin 1280) :
    val_main_v89 (F := Idealize.ShloMosaic.Ideal) x2 x5 x6 x7 (ix2 n k)
      = wS (F := Idealize.ShloMosaic.Ideal) True (x5 (ix2 n k)) (fun j => x6 (ix2 n j)) (fun j => x7 (ix2 n j)) (cidW x2 (evenCh k)) := by
  rw [wS_kC x2 hr]
  have ez : val_main_v77 (F := Idealize.ShloMosaic.Ideal) x2 x7 (ix2 n k) = x7 (ix2 n (kC x2 hr (evenCh k))) := takeEven x2 hr x7 n k
  have es : val_main_v87 (F := Idealize.ShloMosaic.Ideal) x2 x6 (ix2 n k) = x6 (ix2 n (kC x2 hr (evenCh k))) := takeEven x2 hr x6 n k
  rw [val_main_v89_apply, val_main_v80_apply, val_main_v79_apply, val_main_v78_apply, val_main_v88_apply, ez, es]
  rfl

theorem v108_at (n : Fin 6912) (k : Fin 1280) :
    val_main_v108 (F := Idealize.ShloMosaic.Ideal) x2 x5 x6 x7 (ix2 n k)
      = wS (F := Idealize.ShloMosaic.Ideal) False (x5 (ix2 n k)) (fun j => x6 (ix2 n j)) (fun j => x7 (ix2 n j)) (cidW x2 (oddCh k)) := by
  rw [wS_kC x2 hr]
  have ez : val_main_v96 (F := Idealize.ShloMosaic.Ideal) x2 x7 (ix2 n k) = x7 (ix2 n (kC x2 hr (oddCh k))) := takeOdd x2 hr x7 n k
  have es : val_main_v106 (F := Idealize.ShloMosaic.Ideal) x2 x6 (ix2 n k) = x6 (ix2 n (kC x2 hr (oddCh k))) := takeOdd x2 hr x6 n k
  rw [val_main_v108_apply, val_main_v99_apply, val_main_v98_apply, val_main_v97_apply, val_main_v107_apply, ez, es]
  rfl

end

section
variable (x0 : FVec Idealize.ShloMosaic.Ideal S4x256x2560 .bf16) (x1 : IVec S2560 32) (x2 : IVec S6 32)
  (x3 : FVec Idealize.ShloMosaic.Ideal S5 .f32) (x4 : IVec S5 32)
  (x5 : IVec S6912x1280 8) (x6 : FVec Idealize.ShloMosaic.Ideal S6912x5 .f32) (x7 : IVec S6912x5 8)

theorem v109_at (i : Fin 1024) (k : Fin 1280) :
    val_main_v109 (F := Idealize.ShloMosaic.Ideal) x0 x1 x2 x3 x4 (ix2 i k) = val_main_v61 (F := Idealize.ShloMosaic.Ideal) x0 x1 x2 x3 x4 (ix2 i (evenCh k)) := by
  unfold val_main_v109
  rw [Host.slice_apply]
  refine congrArg (val_main_v61 (F := Idealize.ShloMosaic.Ideal) x0 x1 x2 x3 x4) (funext fun a => ?_)
  match a with
  | ⟨0, _⟩ => exact Fin.ext (by show 0 + 1 * i.val = i.val; omega)
  | ⟨1, _⟩ => exact Fin.ext (by show 0 + 2 * k.val = 2 * k.val; omega)

theorem v111_at (i : Fin 1024) (k : Fin 1280) :
    val_main_v111 (F := Idealize.ShloMosaic.Ideal) x0 x1 x2 x3 x4 (ix2 i k) = val_main_v61 (F := Idealize.ShloMosaic.Ideal) x0 x1 x2 x3 x4 (ix2 i (oddCh k)) := by
  unfold val_main_v111
  rw [Host.slice_apply]
  refine congrArg (val_main_v61 (F := Idealize.ShloMosaic.Ideal) x0 x1 x2 x3 x4) (funext fun a => ?_)
  match a with
  | ⟨0, _⟩ => exact Fin.ext (by show 0 + 1 * i.val = i.val; omega)
  | ⟨1, _⟩ => exact Fin.ext (by show 1 + 2 * k.val = 2 * k.val + 1; omega)

/-- The reference's product: the sum over the even channels and the sum over the odd ones. -/
theorem v114_at (i : Fin 1024) (n : Fin 6912) :
    val_main_v114 (F := Idealize.ShloMosaic.Ideal) x0 x1 x2 x3 x4 x5 x6 x7 (ix2 i n)
      = ((∑ k : Fin 1280, (val_main_v61 (F := Idealize.ShloMosaic.Ideal) x0 x1 x2 x3 x4 (ix2 i (evenCh k)) : EReal)
            * val_main_v89 (F := Idealize.ShloMosaic.Ideal) x2 x5 x6 x7 (ix2 n k))
          + ∑ k : Fin 1280, (val_main_v61 (F := Idealize.ShloMosaic.Ideal) x0 x1 x2 x3 x4 (ix2 i (oddCh k)) : EReal)
            * val_main_v108 (F := Idealize.ShloMosaic.Ideal) x2 x5 x6 x7 (ix2 n k) : EReal) := by
  rw [val_main_v114_apply, val_main_v113_apply, val_main_v110_apply, val_main_v112_apply]
  have el : ∀ k : Fin 1280, lidx_main_v110 (ix2 i n) k = ix2 i k := fun k => funext fun a => match a with
    | ⟨0, _⟩ => rfl
    | ⟨1, _⟩ => rfl
  have er : ∀ k : Fin 1280, ridx_main_v110 (ix2 i n) k = ix2 n k := fun k => funext fun a => match a with
    | ⟨0, _⟩ => rfl
    | ⟨1, _⟩ => rfl
  have h1 : ∀ k : Fin 1280, val_main_v109 (F := Idealize.ShloMosaic.Ideal) x0 x1 x2 x3 x4 (lidx_main_v110 (ix2 i n) k) = val_main_v61 (F := Idealize.ShloMosaic.Ideal) x0 x1 x2 x3 x4 (ix2 i (evenCh k)) :=
    fun k => (congrArg _ (el k)).trans (v109_at x0 x1 x2 x3 x4 i k)
  have h2 : ∀ k : Fin 1280, val_main_v111 (F := Idealize.ShloMosaic.Ideal) x0 x1 x2 x3 x4 (lidx_main_v112 (ix2 i n) k) = val_main_v61 (F := Idealize.ShloMosaic.Ideal) x0 x1 x2 x3 x4 (ix2 i (oddCh k)) :=
    fun k => (congrArg _ (el k)).trans (v111_at x0 x1 x2 x3 x4 i k)
  have h3 : ∀ k : Fin 1280, val_main_v89 (F := Idealize.ShloMosaic.Ideal) x2 x5 x6 x7 (ridx_main_v110 (ix2 i n) k) = val_main_v89 (F := Idealize.ShloMosaic.Ideal) x2 x5 x6 x7 (ix2 n k) :=
    fun k => congrArg _ (er k)
  have h4 : ∀ k : Fin 1280, val_main_v108 (F := Idealize.ShloMosaic.Ideal) x2 x5 x6 x7 (ridx_main_v112 (ix2 i n) k) = val_main_v108 (F := Idealize.ShloMosaic.Ideal) x2 x5 x6 x7 (ix2 n k) :=
    fun k => congrArg _ (er k)
  simp only [h1, h2, h3, h4]
  rfl

end

end Cert.ReferenceIdeal.Own

end
-- ==== Proof.Ideal.Arrays.lean ====
/- The arrays the ideal program ends with, as functions of its arguments. -/
module

public import proofs.«01_k».proof.Proof.Ideal.Frame
public import Idealize.ShloMosaic.Lib.Pipeline.ValueKit

@[expose] public section

set_option maxRecDepth 16384

noncomputable section

namespace Cert.KernelIdeal.Own

open Cert.KernelIdeal Cert.KernelIdeal.Gen
open Idealize.ShloMosaic hiding ix1 ix2 ix3 eq_ix1 eq_ix2 eq_ix3
open Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-! ## The windows' blocks -/

theorem idx_val : ∀ t : Fin cfg0.N, win0_0.index t = ![0] ∧ win0_1.index t = ![0] ∧ win0_2.index t = ![0] ∧ win0_3.index t = ![0, 0]
    ∧ win0_4.index t = ![0, 0] ∧ win0_5.index t = ![t.val, 0] ∧ win0_6.index t = ![t.val, 0] ∧ win0_7.index t = ![t.val, 0]
    ∧ win0_8.index t = ![0, t.val] ∧ win0_9.index t = ![0, 0] ∧ t.val < 27 :=
  (by decide +kernel : ∀ t : Fin grid0.N, _)

theorem bB_eq (c : Dev nD) : bB m c = m ((c : Thread nD τ).loc main_arg2) := by
  unfold bB; blk_ext! [iblk, V, idx_val t0]
theorem bS_eq (c : Dev nD) : bS m c = m ((c : Thread nD τ).loc main_arg3) := by
  unfold bS; blk_ext! [iblk, V, idx_val t0]
theorem bZ_eq (c : Dev nD) : bZ m c = m ((c : Thread nD τ).loc main_arg4) := by
  unfold bZ; blk_ext! [iblk, V, idx_val t0]
theorem bP_eq (c : Dev nD) : bP m c = shapeCast S20x128 (m ((c : Thread nD τ).loc main_arg1)) shapeCasts_S2560_S20x128 := by
  unfold bP
  blk_simp [iblk, idx_val t0]
  entry_read
  funext y
  blk_simp [idx_val t0]
  refine congrArg _ ?_
  blk_ext [idx_val t0]
theorem bX_eq (c : Dev nD) : bX m c = shapeCast S1024x2560 (m ((c : Thread nD τ).loc main_arg0)) shapeCasts_S4x256x2560_S1024x2560 := by
  unfold bX
  blk_simp [iblk, idx_val t0]
  entry_read
  funext y
  blk_simp [idx_val t0]
  refine congrArg _ ?_
  blk_ext [idx_val t0]

theorem row5 (c : Dev nD) (t : Fin cfg0.N) (r : Fin 256) (k : Fin 1280) (R : Fin 6912) (hR : R.val = 256 * t.val + r.val) :
    (iblk m c 5 t : Vec F S256x1280 .i8) (ix2 r k) = m ((c : Thread nD τ).loc main_arg5) (ix2 R k) := by
  blk_ext! [iblk, V, idx_val t]
  show t.val * 256 + r.val = R.val
  omega
theorem row6 (c : Dev nD) (t : Fin cfg0.N) (r : Fin 256) (k : Fin 5) (R : Fin 6912) (hR : R.val = 256 * t.val + r.val) :
    (iblk m c 6 t : Vec F S256x5 .f32) (ix2 r k) = m ((c : Thread nD τ).loc main_arg6) (ix2 R k) := by
  blk_ext! [iblk, V, idx_val t]
  show t.val * 256 + r.val = R.val
  omega
theorem row7 (c : Dev nD) (t : Fin cfg0.N) (r : Fin 256) (k : Fin 5) (R : Fin 6912) (hR : R.val = 256 * t.val + r.val) :
    (iblk m c 7 t : Vec F S256x5 .i8) (ix2 r k) = m ((c : Thread nD τ).loc main_arg7) (ix2 R k) := by
  blk_ext! [iblk, V, idx_val t]
  show t.val * 256 + r.val = R.val
  omega

/-- The array of codes after the run. -/
theorem final9 (c : Dev nD) : (dats m 0 c).arrAt 9 (cfgs 0).N = xAll m c := by
  refine (dats m 0 c).arrAt_eq_of_covers 9 _ (by decide +kernel) fun t _ y => ?_
  blk_simp
  rw [after0_9]
  refine congrArg (xAll m c) ?_
  blk_ext [idx_val t]

/-- The product's array after the run, entry by entry: column `n` from the weights' block that holds row `n`. -/
theorem final8 (c : Dev nD) (G : Vec F S1024x6912 .bf16)
    (hG : ∀ (t : Fin cfg0.N) (i : Fin 1024) (r : Fin 256) (R : Fin 6912), R.val = 256 * t.val + r.val →
      YG (bB m c) (dAll m c) (iblk m c 5 t) (iblk m c 6 t) (iblk m c 7 t) (ix2 i r) = G (ix2 i R)) :
    (dats m 0 c).arrAt 8 (cfgs 0).N = G := by
  refine (dats m 0 c).arrAt_eq_of_covers 8 _ (by decide +kernel) fun t _ y => ?_
  blk_simp
  rw [after0_8]
  have ht := (idx_val t).2.2.2.2.2.2.2.2.2.2
  have hy : (y 1).val < 256 := (y 1).isLt
  refine (congrArg (YG (bB m c) (dAll m c) (iblk m c 5 t) (iblk m c 6 t) (iblk m c 7 t)) (eq_ix2 y)).trans
    ((hG t (y 0) (y 1) ⟨256 * t.val + (y 1).val, by omega⟩ rfl).trans (congrArg G ?_))
  blk_ext [idx_val t]

end Cert.KernelIdeal.Own

end
-- ==== Proof.Eq.Main.lean ====
/- The ideal program's two arrays are the reference's two results. -/
module

public import proofs.«01_k».proof.Proof.Eq.RefW
public import proofs.«01_k».proof.Proof.Ideal.Arrays

@[expose] public section

set_option maxRecDepth 16384

noncomputable section

namespace Cert.KernelIdeal.Own

open Cert.KernelIdeal Cert.KernelIdeal.Gen
open Cert.ReferenceIdeal.Read
open Cert.ReferenceIdeal.Own (pK xK evenCh oddCh)
open Idealize.ShloMosaic hiding ix1 ix2 ix3 eq_ix1 eq_ix2 eq_ix3
open Idealize.ShloMosaic.TcCoe Idealize.SL.Sem
open Idealize.ShloMosaic.ValueIdx

/-! ## The product as a sum -/

theorem pay3_at (D : FVec Idealize.ShloMosaic.Ideal S1024x2560 .bf16) (W : FVec Idealize.ShloMosaic.Ideal S256x2560 .bf16)
    (i : Fin 1024) (r : Fin 256) :
    k0_pay3 (F := Idealize.ShloMosaic.Ideal) D W (ix2 i r) = (∑ j : Fin 2560, (D (ix2 i j) : EReal) * W (ix2 r j) : EReal) := by
  pointwise [k0_pay3]
  rfl

theorem colCh_even (k : Fin 1280) : colCh (⟨k.val, by omega⟩ : Fin 2560) = evenCh k :=
  Fin.ext (by show 2 * (128 * (k.val / 128 % 10) + k.val % 128) + k.val / 128 / 10 = 2 * k.val; omega)
theorem colCh_odd (k : Fin 1280) : colCh (⟨1280 + k.val, by omega⟩ : Fin 2560) = oddCh k :=
  Fin.ext (by show 2 * (128 * ((1280 + k.val) / 128 % 10) + (1280 + k.val) % 128) + (1280 + k.val) / 128 / 10 = 2 * k.val + 1; omega)

theorem sum_halves (f : Fin 2560 → EReal) :
    ∑ j : Fin 2560, f j = (∑ k : Fin 1280, f ⟨k.val, by omega⟩) + ∑ k : Fin 1280, f ⟨1280 + k.val, by omega⟩ :=
  Fin.sum_univ_add (a := 1280) (b := 1280) f

theorem wS_low {F : FTy → Type} [FloatOps F] (low : Prop) [Decidable low] (h : low) (w : BitVec 8) (sc : Fin 5 → F .f32)
    (zp : Fin 5 → BitVec 8) (c : BitVec 32) : wS low w sc zp c = wS True w sc zp c := by
  unfold wS nibS
  rw [if_pos h, if_pos trivial]
theorem wS_high {F : FTy → Type} [FloatOps F] (low : Prop) [Decidable low] (h : ¬ low) (w : BitVec 8) (sc : Fin 5 → F .f32)
    (zp : Fin 5 → BitVec 8) (c : BitVec 32) : wS low w sc zp c = wS False w sc zp c := by
  unfold wS nibS
  rw [if_neg h, if_neg not_false]

section
variable (x0 : FVec Idealize.ShloMosaic.Ideal Cert.ReferenceIdeal.S4x256x2560 .bf16) (x1 : IVec Cert.ReferenceIdeal.S2560 32) (x2 : IVec S6 32)
  (x3 : FVec Idealize.ShloMosaic.Ideal S5 .f32) (x4 : IVec S5 32)
  (x5 : IVec Cert.ReferenceIdeal.S6912x1280 8) (x6 : FVec Idealize.ShloMosaic.Ideal Cert.ReferenceIdeal.S6912x5 .f32)
  (x7 : IVec Cert.ReferenceIdeal.S6912x5 8)
variable (hr : ∀ ch : Fin 2560, (cidW x2 ch).toNat < 5) (hp : ∀ ch : Fin 2560, (x1 (ix1 ch)).toNat < 2560)

include hr hp

/-- The codes. -/
theorem codes_eq : XG (F := Idealize.ShloMosaic.Ideal) x2 x3 x4 (pK x1) (xK x0) = val_main_v37 (F := Idealize.ShloMosaic.Ideal) x0 x1 x2 x3 x4 := by
  funext y
  obtain ⟨i, ch, rfl⟩ : ∃ (i : Fin 1024) (ch : Fin 2560), y = ix2 i ch := ⟨y 0, y 1, eq_ix2 y⟩
  rw [val_main_v37_apply, val_main_v36_apply, Cert.ReferenceIdeal.Own.v35_at x0 x1 x2 x3 x4 hr hp]
  rfl

/-- The product: entry `(i, r)` of a block whose weights' rows are the arguments' rows `R`. -/
theorem product_eq (W6 : Vec Idealize.ShloMosaic.Ideal S256x1280 .i8) (W7 : Vec Idealize.ShloMosaic.Ideal S256x5 .f32)
    (W8 : Vec Idealize.ShloMosaic.Ideal S256x5 .i8) (i : Fin 1024) (r : Fin 256) (R : Fin 6912)
    (h6 : ∀ k : Fin 1280, W6 (ix2 r k) = x5 (ix2 R k)) (h7 : ∀ k : Fin 5, W7 (ix2 r k) = x6 (ix2 R k))
    (h8 : ∀ k : Fin 5, W8 (ix2 r k) = x7 (ix2 R k)) :
    YG (F := Idealize.ShloMosaic.Ideal) x2 (DG x2 x3 x4 (pK x1) (xK x0)) W6 W7 W8 (ix2 i r)
      = val_main_v114 (F := Idealize.ShloMosaic.Ideal) x0 x1 x2 x3 x4 x5 x6 x7 (ix2 i R) := by
  unfold YG
  rw [pay3_at, sum_halves, Cert.ReferenceIdeal.Own.v114_at]
  have d : ∀ j : Fin 2560, DG (F := Idealize.ShloMosaic.Ideal) x2 x3 x4 (pK x1) (xK x0) (ix2 i j)
      = val_main_v61 (F := Idealize.ShloMosaic.Ideal) x0 x1 x2 x3 x4 (ix2 i (colCh j)) :=
    fun j => (Cert.ReferenceIdeal.Own.v61_at x0 x1 x2 x3 x4 hr hp i (colCh j)).symm
  have e7 : (fun k => W7 (ix2 r k)) = fun k => x6 (ix2 R k) := funext h7
  have e8 : (fun k => W8 (ix2 r k)) = fun k => x7 (ix2 R k) := funext h8
  have w : ∀ (j : Fin 2560), WG (F := Idealize.ShloMosaic.Ideal) x2 W6 W7 W8 (ix2 r j)
      = wS (F := Idealize.ShloMosaic.Ideal) (j.val < 1280) (x5 (ix2 R (⟨j.val % 1280, Nat.mod_lt _ (by decide)⟩ : Fin 1280)))
        (fun k => x6 (ix2 R k)) (fun k => x7 (ix2 R k)) (cidW x2 (colCh j)) := fun j => by
    rw [← e7, ← e8, ← h6]; rfl
  refine congr (congrArg HAdd.hAdd (Finset.sum_congr rfl fun k _ => ?_)) (Finset.sum_congr rfl fun k _ => ?_)
  · rw [d, w, colCh_even, Cert.ReferenceIdeal.Own.v89_at x2 hr, wS_low _ k.isLt]
    have e : (⟨k.val % 1280, Nat.mod_lt _ (by decide)⟩ : Fin 1280) = k := Fin.ext (Nat.mod_eq_of_lt k.isLt)
    exact congrArg _ (congrArg (fun q => wS (F := Idealize.ShloMosaic.Ideal) True (x5 (ix2 R q)) (fun j => x6 (ix2 R j)) (fun j => x7 (ix2 R j)) (cidW x2 (evenCh k))) e)
  · rw [d, w, colCh_odd, Cert.ReferenceIdeal.Own.v108_at x2 hr, wS_high _ (by simp)]
    have e : (⟨(1280 + k.val) % 1280, Nat.mod_lt _ (by decide)⟩ : Fin 1280) = k := Fin.ext (by show (1280 + k.val) % 1280 = k.val; omega)
    exact congrArg _ (congrArg (fun q => wS (F := Idealize.ShloMosaic.Ideal) False (x5 (ix2 R q)) (fun j => x6 (ix2 R j)) (fun j => x7 (ix2 R j)) (cidW x2 (oddCh k))) e)

end

/-! ## The ideal program's arrays -/

section
variable (m : (ℓ : Loc nD τ sig) → Buf (Elt Idealize.ShloMosaic.Ideal) ℓ) (c : Dev nD)
variable (hr : ∀ ch : Fin 2560, (cidW (m ((c : Thread nD τ).loc main_arg2)) ch).toNat < 5)
  (hp : ∀ ch : Fin 2560, ((m ((c : Thread nD τ).loc main_arg1) : IVec S2560 32) (ix1 ch)).toNat < 2560)

include hr hp

/-- The array of codes is the reference's. -/
theorem codes_final : (dats m 0 c).arrAt 9 (cfgs 0).N
    = val_main_v37 (F := Idealize.ShloMosaic.Ideal) (m ((c : Thread nD τ).loc main_arg0)) (m ((c : Thread nD τ).loc main_arg1)) (m ((c : Thread nD τ).loc main_arg2))
      (m ((c : Thread nD τ).loc main_arg3)) (m ((c : Thread nD τ).loc main_arg4)) := by
  rw [final9]
  unfold xAll
  rw [bB_eq, bS_eq, bZ_eq, bP_eq, bX_eq]
  exact codes_eq _ _ _ _ _ hr hp

/-- The product's array is the reference's. -/
theorem product_final : (dats m 0 c).arrAt 8 (cfgs 0).N
    = val_main_v114 (F := Idealize.ShloMosaic.Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) := by
  refine final8 m c _ fun t i r R hR => ?_
  unfold dAll
  rw [bB_eq, bS_eq, bZ_eq, bP_eq, bX_eq]
  exact product_eq _ _ _ _ _ _ _ _ hr hp _ _ _ i r R (fun k => row5 m c t r k R hR) (fun k => row6 m c t r k R hR)
    (fun k => row7 m c t r k R hR)

end

end Cert.KernelIdeal.Own

end
-- ==== Proof.Eq.Pre.lean ====
/- What the precondition says: every entry of the permutation is a column, and the clusters are the five. -/
module

public import proofs.«01_k».proof.Pre_in_range
public import proofs.«01_k».proof.Proof.Eq.Words
public import Idealize.ShloMosaic.Lib.Pipeline.ValueKit

@[expose] public section

set_option maxRecDepth 16384

noncomputable section

namespace Cert.Pre_in_range

open Idealize.ShloMosaic hiding ix1 ix2 ix3 eq_ix1 eq_ix2 eq_ix3
open Idealize.SL.Sem
open Idealize.ShloMosaic.ValueIdx

/-- The side conditions of the precondition's operations. -/
theorem facts : Facts where
  bcast_S_S2560 := by decide
  bcast_S_S6 := by decide
  reducesTo_S6_S_d0 := by decide
  h_S_ := by decide

theorem bit_and (a b : BitVec 1) (h : IntOp.andi a b = 1#1) : a = 1#1 ∧ b = 1#1 := by
  revert a b; decide

/-- A disjunction of six bits that is one has a bit that is one. -/
theorem fold_or (g : Fin 6 → BitVec 1) (h : Finset.fold IntOp.ori 0#1 g (Finset.univ : Finset (Fin 6)) = 1#1) : ∃ j, g j = 1#1 := by
  by_contra hn
  have hz : g = fun _ => 0#1 := funext fun j => (BitVec.eq_zero_or_eq_one (g j)).resolve_right fun e => hn ⟨j, e⟩
  rw [hz] at h
  exact absurd h (by decide)

variable [Facts] {x0 : FVec Idealize.ShloMosaic.Ideal S4x256x2560 .bf16} {x1 : IVec S2560 32} {x2 : IVec S6 32}
  {x3 : FVec Idealize.ShloMosaic.Ideal S5 .f32} {x4 : IVec S5 32} {x5 : IVec S6912x1280 8}
  {x6 : FVec Idealize.ShloMosaic.Ideal S6912x5 .f32} {x7 : IVec S6912x5 8}

/-- A disjunction along the bounds that is one holds of some bound. -/
theorem any_bound (v : IVec S6 1) (j : S_.Idx)
    (h : Host.reduce IntOp.ori v (constantI S_ 1 0#1) Facts.reducesTo_S6_S_d0 Facts.h_S_ j = 1#1) : ∃ k : Fin 6, v (ix1 k) = 1#1 := by
  rw [Host.reduce_eq_fold, Shape.ReducesTo.fold_fiber_r1_a0] at h
  exact fold_or _ h

/-- What the precondition says at a channel. -/
theorem parts (h : Cert.Pre_in_range.fn (F := Idealize.ShloMosaic.Ideal) x0 x1 x2 x3 x4 x5 x6 x7 = fun _ => 1#1) (ch : Fin 2560) :
    (IntOp.cmpi .sge (x1 (ix1 ch)) 0#32 = 1#1 ∧ IntOp.cmpi .slt (x1 (ix1 ch)) 2560#32 = 1#1)
      ∧ (∃ k : Fin 6, IntOp.cmpi .sle (x2 (ix1 k)) 0#32 = 1#1) ∧ ∃ k : Fin 6, IntOp.cmpi .sge (x2 (ix1 k)) 2560#32 = 1#1 := by
  have h' := congrFun h (ix1 ch)
  unfold Cert.Pre_in_range.fn at h'
  obtain ⟨h9, h13⟩ := bit_and _ _ h'
  obtain ⟨h4, h8⟩ := bit_and _ _ h9
  obtain ⟨h1, h3⟩ := bit_and _ _ h4
  exact ⟨⟨h1, h3⟩, any_bound _ _ h8, any_bound _ _ h13⟩

theorem of_ofBool {b : Bool} (h : BitVec.ofBool b = 1#1) : b = true := by cases b <;> simp_all

/-- Every entry of the permutation is a column. -/
theorem perm_lt (h : Cert.Pre_in_range.fn (F := Idealize.ShloMosaic.Ideal) x0 x1 x2 x3 x4 x5 x6 x7 = fun _ => 1#1) (ch : Fin 2560) :
    (x1 (ix1 ch)).toNat < 2560 := by
  obtain ⟨⟨h0, h1⟩, _⟩ := parts h ch
  have h0' : (0#32).sle (x1 (ix1 ch)) = true := of_ofBool h0
  have h1' : (x1 (ix1 ch)).slt 2560#32 = true := of_ofBool h1
  rw [BitVec.sle_eq_decide, decide_eq_true_iff] at h0'
  rw [BitVec.slt_eq_decide, decide_eq_true_iff] at h1'
  have e0 : (0#32 : BitVec 32).toInt = 0 := by decide
  have e1 : (2560#32 : BitVec 32).toInt = 2560 := by decide
  rw [e0] at h0'
  rw [e1] at h1'
  have := BitVec.toInt_eq_toNat_cond (x1 (ix1 ch))
  split at this <;> omega

/-- Every channel's cluster is one of the five. -/
theorem cid_lt (h : Cert.Pre_in_range.fn (F := Idealize.ShloMosaic.Ideal) x0 x1 x2 x3 x4 x5 x6 x7 = fun _ => 1#1) (ch : Fin 2560) :
    (Cert.KernelIdeal.Own.cidW x2 ch).toNat < 5 := by
  obtain ⟨_, ⟨j, hj⟩, ⟨k, hk⟩⟩ := parts h ch
  exact Cert.KernelIdeal.Own.cidW_lt x2 ⟨j, of_ofBool hj⟩ ⟨k, of_ofBool hk⟩ ch

end Cert.Pre_in_range

end
-- ==== Proof.lean ====
/-
  The proof of `Cert.Claim`: the frames of the kernel at both instances and of the reference, and that over the extended reals the
  kernel's two results are the reference's.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.ReferenceIdeal.Read
public import proofs.«01_k».proof.Proof.Kernel.Frame
public import proofs.«01_k».proof.Proof.Ideal.Frame
public import proofs.«01_k».proof.Proof.Eq.Main
public import proofs.«01_k».proof.Proof.Eq.Pre
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

instance : Cert.Pre_in_range.Facts := Cert.Pre_in_range.facts

/-- The reference runs, and leaves its arguments and every semaphore counter as they were. -/
theorem frame_reference : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

/-- Over the extended reals the kernel and the reference leave the same two arrays. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.facts) := by
  intro m g m' g' hpre hargs
  refine ⟨fun c => (Cert.KernelIdeal.Own.dats m 0 c).arrAt 8 (Cert.KernelIdeal.cfgs 0).N,
    fun c => (Cert.KernelIdeal.Own.dats m 0 c).arrAt 9 (Cert.KernelIdeal.cfgs 0).N, ?_, ?_⟩
  · exact (θ_run Cert.KernelIdeal.defs _ _).mono (fun r h c => ⟨(h.1.1 c).1 8, (h.1.1 c).1 9, h.2.1 c⟩)
      (θ_run_and (Cert.KernelIdeal.Own.run_quiescent m g) (Cert.KernelIdeal.Own.frame_ideal m g))
  · refine (θ_run Cert.ReferenceIdeal.defs _ _).mono (fun r h c => ?_) (Cert.ReferenceIdeal.Value.run (F := Ideal) m' g')
    obtain ⟨h114, h37, hkept⟩ := h c
    obtain ⟨a0, a1, a2, a3, a4, a5, a6, a7⟩ := hargs c
    have hr := Cert.Pre_in_range.cid_lt (hpre c)
    have hp := Cert.Pre_in_range.perm_lt (hpre c)
    refine ⟨h114.trans ?_, h37.trans ?_, hkept⟩
    · rw [Cert.ReferenceIdeal.Read.val_main_v114_eq, a0, a1, a2, a3, a4, a5, a6, a7]
      exact (Cert.KernelIdeal.Own.product_final m c hr hp).symm
    · rw [Cert.ReferenceIdeal.Read.val_main_v37_eq, a0, a1, a2, a3, a4]
      exact (Cert.KernelIdeal.Own.codes_final m c hr hp).symm

/-- The frames, `preserves` — nothing was rewritten, so it is `True` — and the equality with the reference. -/
theorem claim : Cert.Claim :=
  ⟨Cert.Kernel.Gen.facts, Cert.KernelIdeal.Gen.facts, Cert.ReferenceIdeal.Gen.facts, Cert.Pre_in_range.facts,
    fun m g _ => Cert.Kernel.Own.frame_kernel m g, fun m g _ => Cert.KernelIdeal.Own.frame_ideal m g,
    fun m g _ => Cert.KernelIdeal.Own.frame_ideal m g, frame_reference, fun m g _ => frame_reference m g trivial,
    trivial, algebraic⟩

end Cert.Proof

end
